-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_sinusoidal [hPre_sinusoidal : Cert.Pre_sinusoidal.Facts] (m : (ℓ : Loc Cert.KernelIdeal.nD Cert.KernelIdeal.τ Cert.KernelIdeal.sig) → Buf (Elt Ideal) ℓ) : Prop :=
  ∀ c : Dev Cert.KernelIdeal.nD,
    (Cert.Pre_sinusoidal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_sinusoidal [hPre_sinusoidal : Cert.Pre_sinusoidal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_sinusoidal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_sinusoidal [hKernelIdeal : Cert.KernelIdeal.Facts] [hPre_sinusoidal : Cert.Pre_sinusoidal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_sinusoidal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_sinusoidal [hReferenceIdeal : Cert.ReferenceIdeal.Facts] [hPre_sinusoidal : Cert.Pre_sinusoidal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_sinusoidal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_sinusoidal [hKernelIdeal : Cert.KernelIdeal.Facts] [hReferenceIdeal : Cert.ReferenceIdeal.Facts] [hPre_sinusoidal : Cert.Pre_sinusoidal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_sinusoidal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_sinusoidal : Cert.Pre_sinusoidal.Facts),
    quiescent_Kernel (hKernel := hKernel)
    ∧ quiescent_KernelIdeal (hKernelIdeal := hKernelIdeal)
    ∧ quiescent_KernelIdeal_pre_sinusoidal (hKernelIdeal := hKernelIdeal) (hPre_sinusoidal := hPre_sinusoidal)
    ∧ quiescent_ReferenceIdeal (hReferenceIdeal := hReferenceIdeal)
    ∧ quiescent_ReferenceIdeal_pre_sinusoidal (hReferenceIdeal := hReferenceIdeal) (hPre_sinusoidal := hPre_sinusoidal)
    ∧ preserves_Kernel_KernelIdeal
    ∧ algebraic_KernelIdeal_ReferenceIdeal_pre_sinusoidal (hKernelIdeal := hKernelIdeal) (hReferenceIdeal := hReferenceIdeal) (hPre_sinusoidal := hPre_sinusoidal)
-- ==== Pre_sinusoidal.lean ====
abbrev S4x8192 : Shape := ⟨2, ![4, 8192]⟩
abbrev S8193x1024 : Shape := ⟨2, ![8193, 1024]⟩
abbrev S1024 : Shape := ⟨1, ![1024]⟩
abbrev S_ : Shape := ⟨0, ![]⟩
abbrev S8193 : Shape := ⟨1, ![8193]⟩
abbrev S8193x1 : Shape := ⟨2, ![8193, 1]⟩
abbrev S1x1024 : Shape := ⟨2, ![1, 1024]⟩
abbrev S1 : Shape := ⟨1, ![1]⟩

class Facts : Prop where
  bcast_S_S1024 : S_.BroadcastsInDim S1024 (![] : Fin 0 → Fin S1024.rank)
  bcast_S8193_S8193x1_0 : S8193.BroadcastsInDim S8193x1 (![0] : Fin 1 → Fin S8193x1.rank)
  bcast_S1024_S1x1024_1 : S1024.BroadcastsInDim S1x1024 (![1] : Fin 1 → Fin S1x1024.rank)
  bcast_S8193x1_S8193x1024_0_1 : S8193x1.BroadcastsInDim S8193x1024 (![0, 1] : Fin 2 → Fin S8193x1024.rank)
  bcast_S1x1024_S8193x1024_0_1 : S1x1024.BroadcastsInDim S8193x1024 (![0, 1] : Fin 2 → Fin S8193x1024.rank)
  bcast_S_S1 : S_.BroadcastsInDim S1 (![] : Fin 0 → Fin S1.rank)
  scatter_S8193x1024_S1_S1024_0_0_0_0_wf : ScatterDims.WF S8193x1024 S1 S1024 [0] [0] [0] 0

variable [Facts]

def scatter_S8193x1024_S1_S1024_0_0_0_0 : ScatterDims S8193x1024 S1 S1024 where
  updateWindowDims := [0]
  insertedWindowDims := [0]
  scatterDimsToOperandDims := [0]
  indexVectorDim := 0
  wf := scatter_S8193x1024_S1_S1024_0_0_0_0_wf
def fn_where {F : FTy → Type} [FloatOps F] (arg0 : IVec S1024 1) (arg1 : IVec S1024 32) (arg2 : IVec S1024 32) : IVec S1024 32 :=
  let v0 : IVec S1024 32 := select arg0 arg1 arg2
  v0

def fn_floor_divide {F : FTy → Type} [FloatOps F] (arg0 : IVec S1024 32) (arg1 : IVec S_ 32) : IVec S1024 32 :=
  let v0 : IVec S_ 32 := id arg1
  let v1 : IVec S1024 32 := broadcastInDim S1024 ![] bcast_S_S1024 v0
  let v2 : IVec S1024 32 := Host.divsi arg0 v1
  let v3 : IVec S1024 32 := signi arg0
  let v4 : IVec S_ 32 := signi v0
  let v5 : IVec S1024 32 := broadcastInDim S1024 ![] bcast_S_S1024 v4
  let v6 : IVec S1024 1 := cmpi .ne v3 v5
  let v7 : IVec S1024 32 := broadcastInDim S1024 ![] bcast_S_S1024 v0
  let v8 : IVec S1024 32 := Host.remsi arg0 v7
  let c : IVec S_ 32 := constantI S_ 32 0#32
  let v9 : IVec S1024 32 := broadcastInDim S1024 ![] bcast_S_S1024 c
  let v10 : IVec S1024 1 := cmpi .ne v8 v9
  let v11 : IVec S1024 1 := andi v6 v10
  let c_0 : IVec S_ 32 := constantI S_ 32 1#32
  let v12 : IVec S1024 32 := broadcastInDim S1024 ![] bcast_S_S1024 c_0
  let v13 : IVec S1024 32 := subi v2 v12
  let v14 : IVec S1024 32 := fn_where (F := F) v11 v13 v2
  v14

def fn_where_0 {F : FTy → Type} [FloatOps F] (arg0 : IVec S_ 1) (arg1 : IVec S_ 32) (arg2 : IVec S_ 32) : IVec S_ 32 :=
  let v0 : IVec S_ 32 := select arg0 arg1 arg2
  v0

def fn_remainder {F : FTy → Type} [FloatOps F] (arg0 : IVec S1024 32) (arg1 : IVec S_ 32) : IVec S1024 32 :=
  let v0 : IVec S_ 32 := id arg1
  let c : IVec S_ 32 := constantI S_ 32 0#32
  let v1 : IVec S_ 1 := cmpi .eq v0 c
  let c_0 : IVec S_ 32 := constantI S_ 32 1#32
  let v2 : IVec S_ 32 := fn_where_0 (F := F) v1 c_0 v0
  let v3 : IVec S1024 32 := broadcastInDim S1024 ![] bcast_S_S1024 v2
  let v4 : IVec S1024 32 := Host.remsi arg0 v3
  let c_1 : IVec S_ 32 := constantI S_ 32 0#32
  let v5 : IVec S1024 32 := broadcastInDim S1024 ![] bcast_S_S1024 c_1
  let v6 : IVec S1024 1 := cmpi .ne v4 v5
  let c_2 : IVec S_ 32 := constantI S_ 32 0#32
  let v7 : IVec S1024 32 := broadcastInDim S1024 ![] bcast_S_S1024 c_2
  let v8 : IVec S1024 1 := cmpi .slt v4 v7
  let c_3 : IVec S_ 32 := constantI S_ 32 0#32
  let v9 : IVec S_ 1 := cmpi .slt v2 c_3
  let v10 : IVec S1024 1 := broadcastInDim S1024 ![] bcast_S_S1024 v9
  let v11 : IVec S1024 1 := cmpi .ne v8 v10
  let v12 : IVec S1024 1 := andi v11 v6
  let v13 : IVec S1024 32 := broadcastInDim S1024 ![] bcast_S_S1024 v2
  let v14 : IVec S1024 32 := addi v4 v13
  let v15 : IVec S1024 32 := select v12 v14 v4
  v15

def fn_where_1 {F : FTy → Type} [FloatOps F] (arg0 : IVec S1x1024 1) (arg1 : FVec F S8193x1024 .f32) (arg2 : FVec F S8193x1024 .f32) : FVec F S8193x1024 .f32 :=
  let v0 : IVec S8193x1024 1 := broadcastInDim S8193x1024 ![0, 1] bcast_S1x1024_S8193x1024_0_1 arg0
  let v1 : FVec F S8193x1024 .f32 := select v0 arg1 arg2
  v1

def fn_part1 {F : FTy → Type} [FloatOps F] (main_arg1 : FVec F S8193x1024 .f32) (main_v18 : FVec F S8193x1024 .f32) (main_c_2 : IVec S_ 32) : IVec S8193x1024 1 :=
  let main_v19 : IVec S1 32 := broadcastInDim S1 ![] bcast_S_S1 main_c_2
  let main_cst_3 : FVec F S_ .f32 := constant S_ .f32 0x00000000#32
  let main_v20 : FVec F S1024 .f32 := broadcastInDim S1024 ![] bcast_S_S1024 main_cst_3
  let main_v21 : FVec F S8193x1024 .f32 := (fun x i u => Host.scatter scatter_S8193x1024_S1_S1024_0_0_0_0 (fun _ b => b) x i u) main_v18 main_v19 main_v20
  let main_v22 : IVec S8193x1024 1 := cmpf .oeq main_arg1 main_v21
  main_v22

def fn {F : FTy → Type} [FloatOps F] (main_arg0 : IVec S4x8192 32) (main_arg1 : FVec F S8193x1024 .f32) : IVec S8193x1024 1 :=
  let main_v0 : IVec S1024 32 := iotaInDim S1024 32 0
  let main_c : IVec S_ 32 := constantI S_ 32 2#32
  let main_v1 : IVec S1024 32 := fn_floor_divide (F := F) main_v0 main_c
  let main_v2 : FVec F S1024 .f32 := sitofp .f32 main_v1
  let main_cst : FVec F S_ .f32 := constant S_ .f32 0xBC93A762#32
  let main_v3 : FVec F S1024 .f32 := broadcastInDim S1024 ![] bcast_S_S1024 main_cst
  let main_v4 : FVec F S1024 .f32 := mulf main_v2 main_v3
  let main_v5 : FVec F S1024 .f32 := Host.exp main_v4
  let main_v6 : FVec F S8193 .f32 := sitofp .f32 (iotaInDim S8193 32 0)
  let main_v7 : FVec F S8193x1 .f32 := broadcastInDim S8193x1 ![0] bcast_S8193_S8193x1_0 main_v6
  let main_v8 : FVec F S1x1024 .f32 := broadcastInDim S1x1024 ![1] bcast_S1024_S1x1024_1 main_v5
  let main_v9 : FVec F S8193x1024 .f32 := broadcastInDim S8193x1024 ![0, 1] bcast_S8193x1_S8193x1024_0_1 main_v7
  let main_v10 : FVec F S8193x1024 .f32 := broadcastInDim S8193x1024 ![0, 1] bcast_S1x1024_S8193x1024_0_1 main_v8
  let main_v11 : FVec F S8193x1024 .f32 := mulf main_v9 main_v10
  let main_c_0 : IVec S_ 32 := constantI S_ 32 2#32
  let main_v12 : IVec S1024 32 := fn_remainder (F := F) main_v0 main_c_0
  let main_c_1 : IVec S_ 32 := constantI S_ 32 0#32
  let main_v13 : IVec S1024 32 := broadcastInDim S1024 ![] bcast_S_S1024 main_c_1
  let main_v14 : IVec S1024 1 := cmpi .eq main_v12 main_v13
  let main_v15 : IVec S1x1024 1 := broadcastInDim S1x1024 ![1] bcast_S1024_S1x1024_1 main_v14
  let main_v16 : FVec F S8193x1024 .f32 := Host.sin main_v11
  let main_v17 : FVec F S8193x1024 .f32 := Host.cos main_v11
  let main_v18 : FVec F S8193x1024 .f32 := fn_where_1 (F := F) main_v15 main_v16 main_v17
  let main_c_2 : IVec S_ 32 := constantI S_ 32 0#32
  fn_part1 (F := F) main_arg1 main_v18 main_c_2
-- ==== Kernel.lean ====
abbrev S4x8192 : Shape := ⟨2, ![4, 8192]⟩
abbrev S8193x1024 : Shape := ⟨2, ![8193, 1024]⟩
abbrev S2 : Shape := ⟨1, ![2]⟩
abbrev S8 : Shape := ⟨1, ![8]⟩
abbrev S_ : Shape := ⟨0, ![]⟩
abbrev S8x1 : Shape := ⟨2, ![8, 1]⟩
abbrev S8x1024 : Shape := ⟨2, ![8, 1024]⟩
abbrev S1x2 : Shape := ⟨2, ![1, 2]⟩
abbrev S512x2 : Shape := ⟨2, ![512, 2]⟩
abbrev S1024 : Shape := ⟨1, ![1024]⟩
abbrev S1 : Shape := ⟨1, ![1]⟩
abbrev S8x512x2 : Shape := ⟨3, ![8, 512, 2]⟩
abbrev S8x512x1 : Shape := ⟨3, ![8, 512, 1]⟩
abbrev S8x1x1024 : Shape := ⟨3, ![8, 1, 1024]⟩
abbrev S1x1024 : Shape := ⟨2, ![1, 1024]⟩
abbrev S1x1x1024 : Shape := ⟨3, ![1, 1, 1024]⟩
abbrev S4x8192x1024 : Shape := ⟨3, ![4, 8192, 1024]⟩
abbrev S4x1024 : Shape := ⟨2, ![4, 1024]⟩
abbrev S4x1024x1024 : Shape := ⟨3, ![4, 1024, 1024]⟩
abbrev S1024x1024 : Shape := ⟨2, ![1024, 1024]⟩
abbrev S1x1024x1024 : Shape := ⟨3, ![1, 1024, 1024]⟩
abbrev S4x1024x1 : Shape := ⟨3, ![4, 1024, 1]⟩

abbrev nBuf : Space → Nat
  | .hbm => 40
  | .vmem => 11
  | .smem => 0
  | _ => 0

abbrev bufTy : (tb : Table) → Fin (tcTables nBuf tb) → BufTy
  | .hbm, ⟨0, _⟩ => ⟨S4x8192, .i32⟩
  | .hbm, ⟨1, _⟩ => ⟨S8193x1024, .f32⟩
  | .hbm, ⟨2, _⟩ => ⟨S2, .f32⟩
  | .hbm, ⟨3, _⟩ => ⟨S2, .f32⟩
  | .hbm, ⟨4, _⟩ => ⟨S8, .i32⟩
  | .hbm, ⟨5, _⟩ => ⟨S_, .i32⟩
  | .hbm, ⟨6, _⟩ => ⟨S8, .i32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i1⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S8, .i32⟩
  | .hbm, ⟨15, _⟩ => ⟨S8x1, .i32⟩
  | .hbm, ⟨16, _⟩ => ⟨S8x1024, .f32⟩
  | .hbm, ⟨17, _⟩ => ⟨S1x2, .f32⟩
  | .hbm, ⟨18, _⟩ => ⟨S512x2, .f32⟩
  | .hbm, ⟨19, _⟩ => ⟨S1024, .f32⟩
  | .hbm, ⟨20, _⟩ => ⟨S_, .i32⟩
  | .hbm, ⟨21, _⟩ => ⟨S1, .i32⟩
  | .hbm, ⟨22, _⟩ => ⟨S8x1024, .f32⟩
  | .hbm, ⟨23, _⟩ => ⟨S8x512x2, .f32⟩
  | .hbm, ⟨24, _⟩ => ⟨S8x512x1, .f32⟩
  | .hbm, ⟨25, _⟩ => ⟨S8x512x1, .f32⟩
  | .hbm, ⟨26, _⟩ => ⟨S8x512x2, .f32⟩
  | .hbm, ⟨27, _⟩ => ⟨S8x1x1024, .f32⟩
  | .hbm, ⟨28, _⟩ => ⟨S1x2, .f32⟩
  | .hbm, ⟨29, _⟩ => ⟨S512x2, .f32⟩
  | .hbm, ⟨30, _⟩ => ⟨S1024, .f32⟩
  | .hbm, ⟨31, _⟩ => ⟨S8x512x2, .f32⟩
  | .hbm, ⟨32, _⟩ => ⟨S8x1024, .f32⟩
  | .hbm, ⟨33, _⟩ => ⟨S1x1024, .f32⟩
  | .hbm, ⟨34, _⟩ => ⟨S8x1024, .f32⟩
  | .hbm, ⟨35, _⟩ => ⟨S8x1024, .f32⟩
  | .hbm, ⟨36, _⟩ => ⟨S8x1x1024, .f32⟩
  | .hbm, ⟨37, _⟩ => ⟨S1x1024, .f32⟩
  | .hbm, ⟨38, _⟩ => ⟨S1x1x1024, .f32⟩
  | .hbm, ⟨39, _⟩ => ⟨S4x8192x1024, .f32⟩
  | .local _ .vmem, ⟨0, _⟩ => ⟨S4x1024, .i32⟩
  | .local _ .vmem, ⟨1, _⟩ => ⟨S4x1024, .i32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .vmem, ⟨6, _⟩ => ⟨S1x1x1024, .f32⟩
  | .local _ .vmem, ⟨7, _⟩ => ⟨S4x1024x1024, .f32⟩
  | .local _ .vmem, ⟨8, _⟩ => ⟨S4x1024x1024, .f32⟩
  | .local _ .vmem, ⟨9, _⟩ => ⟨S1024x1024, .f32⟩
  | .local _ .vmem, ⟨10, _⟩ => ⟨S1024x1024, .f32⟩
  | _, _ => ⟨S4x8192, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_cst_0 : Ref sig .tc := ⟨.hbm, 3, rfl⟩
abbrev main_v0 : Ref sig .tc := ⟨.hbm, 4, rfl⟩
abbrev main_c : Ref sig .tc := ⟨.hbm, 5, rfl⟩
abbrev main_v1 : Ref sig .tc := ⟨.hbm, 6, rfl⟩
abbrev main_v2 : Ref sig .tc := ⟨.hbm, 7, rfl⟩
abbrev main_c_1 : Ref sig .tc := ⟨.hbm, 8, rfl⟩
abbrev main_v3 : Ref sig .tc := ⟨.hbm, 9, rfl⟩
abbrev main_v4 : Ref sig .tc := ⟨.hbm, 10, rfl⟩
abbrev main_c_2 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c_3 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S4x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S4x1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4x8192 : Shape := ⟨2, ![4, 8192]⟩
abbrev S8193x1024 : Shape := ⟨2, ![8193, 1024]⟩
abbrev S8192 : Shape := ⟨1, ![8192]⟩
abbrev S_ : Shape := ⟨0, ![]⟩
abbrev S1x8192 : Shape := ⟨2, ![1, 8192]⟩
abbrev S32768 : Shape := ⟨1, ![32768]⟩
abbrev S32768x1 : Shape := ⟨2, ![32768, 1]⟩
abbrev S1 : Shape := ⟨1, ![1]⟩
abbrev S1x1 : Shape := ⟨2, ![1, 1]⟩
abbrev S32768x1024 : Shape := ⟨2, ![32768, 1024]⟩
abbrev S4x8192x1024 : Shape := ⟨3, ![4, 8192, 1024]⟩

abbrev nBuf : Space → Nat
  | .hbm => 37
  | .vmem => 0
  | .smem => 0
  | _ => 0

abbrev bufTy : (tb : Table) → Fin (tcTables nBuf tb) → BufTy
  | .hbm, ⟨0, _⟩ => ⟨S4x8192, .i32⟩
  | .hbm, ⟨1, _⟩ => ⟨S8193x1024, .f32⟩
  | .hbm, ⟨2, _⟩ => ⟨S8192, .i32⟩
  | .hbm, ⟨3, _⟩ => ⟨S_, .i32⟩
  | .hbm, ⟨4, _⟩ => ⟨S8192, .i32⟩
  | .hbm, ⟨5, _⟩ => ⟨S8192, .i32⟩
  | .hbm, ⟨6, _⟩ => ⟨S_, .i32⟩
  | .hbm, ⟨7, _⟩ => ⟨S4x8192, .i32⟩
  | .hbm, ⟨8, _⟩ => ⟨S4x8192, .i1⟩
  | .hbm, ⟨9, _⟩ => ⟨S1x8192, .i32⟩
  | .hbm, ⟨10, _⟩ => ⟨S4x8192, .i32⟩
  | .hbm, ⟨11, _⟩ => ⟨S4x8192, .i32⟩
  | .hbm, ⟨12, _⟩ => ⟨S32768, .i32⟩
  | .hbm, ⟨13, _⟩ => ⟨S_, .i32⟩
  | .hbm, ⟨14, _⟩ => ⟨S32768, .i32⟩
  | .hbm, ⟨15, _⟩ => ⟨S32768, .i1⟩
  | .hbm, ⟨16, _⟩ => ⟨S_, .i32⟩
  | .hbm, ⟨17, _⟩ => ⟨S32768, .i32⟩
  | .hbm, ⟨18, _⟩ => ⟨S32768, .i32⟩
  | .hbm, ⟨19, _⟩ => ⟨S32768, .i32⟩
  | .hbm, ⟨20, _⟩ => ⟨S32768x1, .i32⟩
  | .hbm, ⟨21, _⟩ => ⟨S1, .i32⟩
  | .hbm, ⟨22, _⟩ => ⟨S_, .i32⟩
  | .hbm, ⟨23, _⟩ => ⟨S32768x1, .i32⟩
  | .hbm, ⟨24, _⟩ => ⟨S32768x1, .i1⟩
  | .hbm, ⟨25, _⟩ => ⟨S1x1, .i32⟩
  | .hbm, ⟨26, _⟩ => ⟨S32768x1, .i32⟩
  | .hbm, ⟨27, _⟩ => ⟨S32768x1, .i1⟩
  | .hbm, ⟨28, _⟩ => ⟨S32768x1, .i1⟩
  | .hbm, ⟨29, _⟩ => ⟨S_, .i1⟩
  | .hbm, ⟨30, _⟩ => ⟨S32768, .i1⟩
  | .hbm, ⟨31, _⟩ => ⟨S32768x1024, .f32⟩
  | .hbm, ⟨32, _⟩ => ⟨S32768x1024, .i1⟩
  | .hbm, ⟨33, _⟩ => ⟨S_, .f32⟩
  | .hbm, ⟨34, _⟩ => ⟨S32768x1024, .f32⟩
  | .hbm, ⟨35, _⟩ => ⟨S32768x1024, .f32⟩
  | .hbm, ⟨36, _⟩ => ⟨S4x8192x1024, .f32⟩
  | _, _ => ⟨S4x8192, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_v6 : Ref sig .tc := ⟨.hbm, 11, rfl⟩
abbrev main_v7 : Ref sig .tc := ⟨.hbm, 12, rfl⟩
abbrev main_call1_c : Ref sig .tc := ⟨.hbm, 13, rfl⟩
abbrev main_call1_v0 : Ref sig .tc := ⟨.hbm, 14, rfl⟩
abbrev main_call1_v1 : Ref sig .tc := ⟨.hbm, 15, rfl⟩
abbrev main_call1_c_0 : Ref sig .tc := ⟨.hbm, 16, rfl⟩
abbrev main_call1_v2 : Ref sig .tc := ⟨.hbm, 17, rfl⟩
abbrev main_call1_v3 : Ref sig .tc := ⟨.hbm, 18, rfl⟩
abbrev main_call1_v4 : Ref sig .tc := ⟨.hbm, 19, rfl⟩
abbrev main_call1_v5 : Ref sig .tc := ⟨.hbm, 20, rfl⟩
abbrev main_call1_c_1 : Ref sig .tc := ⟨.hbm, 21, rfl⟩
abbrev main_call1_c_2 : Ref sig .tc := ⟨.hbm, 22, rfl⟩
abbrev main_call1_v6 : Ref sig .tc := ⟨.hbm, 23, rfl⟩
abbrev main_call1_v7 : Ref sig .tc := ⟨.hbm, 24, rfl⟩
abbrev main_call1_v8 : Ref sig .tc := ⟨.hbm, 25, rfl⟩
abbrev main_call1_v9 : Ref sig .tc := ⟨.hbm, 26, rfl⟩
abbrev main_call1_v10 : Ref sig .tc := ⟨.hbm, 27, rfl⟩
abbrev main_call1_v11 : Ref sig .tc := ⟨.hbm, 28, rfl⟩
abbrev main_call1_c_3 : Ref sig .tc := ⟨.hbm, 29, rfl⟩
abbrev main_call1_v12 : Ref sig .tc := ⟨.hbm, 30, rfl⟩
abbrev main_call1_v13 : Ref sig .tc := ⟨.hbm, 31, rfl⟩
abbrev main_call1_v14 : Ref sig .tc := ⟨.hbm, 32, rfl⟩
abbrev main_call1_cst : Ref sig .tc := ⟨.hbm, 33, rfl⟩
abbrev main_call1_v15 : Ref sig .tc := ⟨.hbm, 34, rfl⟩
abbrev main_v8 : Ref sig .tc := ⟨.hbm, 35, rfl⟩
abbrev main_v9 : Ref sig .tc := ⟨.hbm, 36, rfl⟩

abbrev nD : Nat := 1
abbrev τ : Topo := Topo.v7x

variable {F : FTy → Type} [FloatOps F]
-- ==== Proof.Block.lean ====
/- What one grid point of the kernel computes, as a function of what it reads: the two scratch buffers the first point
   fills, and the block every point stores. -/
module

public import proofs.«01_k».proof.Proof.Gen.KernelIdeal.Value
public import Idealize.ShloMosaic.Lib.Pipeline.Value
public import Idealize.ShloMosaic.Lib.Tactic

@[expose] public section

set_option maxRecDepth 16384

noncomputable section

namespace Cert.KernelIdeal.Block

open Cert.KernelIdeal Cert.KernelIdeal.Gen Idealize.ShloMosaic Idealize.ShloMosaic.TcCoe Idealize.SL.Sem
open Idealize.ShloMosaic.Pipeline (Dat)

variable {F : FTy → Type} [FloatOps F]

/-- Two zero offsets, as the constant function. -/
theorem zeros2 : (![0, 0] : Fin 2 → Nat) = fun _ => 0 := funext fun a => by fin_cases a <;> rfl

/-- Three zero offsets, as the constant function. -/
theorem zeros3 : (![0, 0, 0] : Fin 3 → Nat) = fun _ => 0 := funext fun a => by fin_cases a <;> rfl

/-- The table's index at row `p` and lane `d` (numbers in range; wrapped otherwise, so that the index is total). -/
def tIx (p d : Nat) : S8193x1024.Idx := fun a => match a with
  | ⟨0, _⟩ => ⟨p % 8193, Nat.mod_lt _ (by decide)⟩
  | ⟨1, _⟩ => ⟨d % 1024, Nat.mod_lt _ (by decide)⟩

/-- An index with the coordinates `p` and `d` is `tIx p d`. -/
theorem eq_tIx (x : S8193x1024.Idx) (p d : Nat) (hp : (x 0).val = p) (hd : (x 1).val = d) : x = tIx p d := by
  have h0 : (x 0).val < 8193 := (x 0).isLt
  have h1 : (x 1).val < 1024 := (x 1).isLt
  funext a
  apply Fin.ext
  match a with
  | ⟨0, _⟩ => show (x 0).val = p % 8193; rw [← hp, Nat.mod_eq_of_lt h0]
  | ⟨1, _⟩ => show (x 1).val = d % 1024; rw [← hd, Nat.mod_eq_of_lt h1]

/-- The table's first 1024 rows: what the kernel's own copy brings into the second scratch buffer. -/
def topRows (w : Vec F S8193x1024 .f32) : Vec F S1024x1024 .f32 :=
  fun j => w (tIx (j 0).val (j 1).val)

/-- The copy's source, read through its slice of the table, is the first 1024 rows. -/
theorem copied_eq (fh : Vec F S8193x1024 .f32) :
    ReadAs.same.apply (View.read (Elt F)
      ((View.whole main_arg1).slice (Rect.unit ![0, 0] ![1024, 1024] inb_S8193x1024_S1024x1024_0_0)) fh) = topRows fh := by
  funext j
  show View.read (Elt F) ((View.whole main_arg1).slice (Rect.unit ![0, 0] ![1024, 1024] inb_S8193x1024_S1024x1024_0_0)) fh j = _
  rw [View.read_apply]
  unfold topRows
  show fh _ = fh _
  congr 1
  apply eq_tIx
  · show 0 + 1 * (j 0).val = (j 0).val; omega
  · show 0 + 1 * (j 1).val = (j 1).val; omega

/-- A whole-buffer load of what one whole-buffer write left is the payload. -/
theorem readBack (v : View sig .tc .vmem S1024x1024 .f32) (w : Vec F S1024x1024 .f32) :
    v.readCov [(⟨Rect.whole S1024x1024, w⟩ : View.Piece (Elt F) S1024x1024 .f32)]
      (Rect.unit ![0, 0] ![1024, 1024] inb_S1024x1024_S1024x1024_0_0).toLoadRect = w := by
  rw [View.readCov_eq_canon_ld _ _ _ (fun y => ⟨_, List.mem_singleton_self _, by
    show y ∈ (Rect.whole S1024x1024).set; rw [Rect.set_whole]; exact Finset.mem_univ y⟩)]
  unfold Rect.whole
  rw [View.canon_unit_zero (S := S1024x1024) rfl]
  exact View.ld_unit_zero (S := S1024x1024) zeros2 inb_S1024x1024_S1024x1024_0_0 w

variable (c : Dev nD) (i : grid0.Coords)
  (a1 : Memref sig .tc .vmem S4x1024 .i32) (h1 : a1.IsWhole) (a3 : Memref sig .tc .vmem S1x1x1024 .f32) (h3 : a3.IsWhole)
  (a4 : Memref sig .tc .vmem S1x1x1024 .f32) (h4 : a4.IsWhole) (a5 : Memref sig .tc .vmem S1x1x1024 .f32) (h5 : a5.IsWhole)
  (a6 : Memref sig .tc .vmem S4x1024x1024 .f32) (h6 : a6.IsWhole) (a7 : Memref sig .tc .vmem S1024x1024 .f32) (h7 : a7.IsWhole)
  (a8 : Memref sig .tc .vmem S1024x1024 .f32) (h8 : a8.IsWhole)
  (x0 : Vec F S4x1024 .i32) (x1 x2 x3 : Vec F S1x1x1024 .f32)

/-- Later points store the block combined from the scratch the first point left. -/
theorem out_B (hc : ¬cond0_0 i) (xs0 xs1 : Vec F S1024x1024 .f32) (fh : HbBuf0 (F := F) c hbM0_0) :
    out0_B_4 c i a1 h1 a3 h3 a4 h4 a5 h5 a6 h6 a7 h7 a8 h8 hc x0 x1 x2 x3 xs0 xs1 fh = k0_pay2 xs0 x2 xs1 x3 x0 := by
  unfold out0_B_4
  rw [View.read_writes_eq_canon _ _ _ (cover0_B_4 c i a1 h1 a3 h3 a4 h4 a5 h5 a6 h6 a7 h7 a8 h8 hc x0 x1 x2 x3 xs0 xs1 fh)]
  unfold kernelRun0_B
  dsimp only
  sl_unfold_words
  rw [View.canon_unit_zero zeros3]
  simp only [View.readAt_eq_ld, h1.read_unread, h4.read_unread, h5.read_unread, h7.read_unread, h8.read_unread,
    View.ld_unit_zero (S := S1024x1024) zeros2, View.ld_unit_zero (S := S4x1024) zeros2, View.ld_unit_zero (S := S1x1x1024) zeros3]

/-- The first scratch buffer after the first point: the table's rows 1 to 1024. -/
theorem scratch0_A (hc : cond0_0 i) (fh : HbBuf0 (F := F) c hbM0_0) :
    sout0_A_0 c i a1 h1 a3 h3 a4 h4 a5 h5 a6 h6 a7 h7 a8 h8 hc x0 x1 x2 x3 fh = k0_pay4 (topRows fh) x1 := by
  unfold sout0_A_0
  rw [View.read_writes_eq_canon _ _ _ (scover0_A_0 c i a1 h1 a3 h3 a4 h4 a5 h5 a6 h6 a7 h7 a8 h8 hc x0 x1 x2 x3 fh)]
  unfold kernelRun0_A
  dsimp only
  sl_unfold_words
  rw [View.canon_unit_zero zeros2]
  simp only [View.readAt_eq_ld, h3.read_unread, View.ld_unit_zero (S := S1x1x1024) zeros3]
  rw [readBack, copied_eq]

/-- The second scratch buffer after the first point: the same rows with the two lanes of every pair exchanged. -/
theorem scratch1_A (hc : cond0_0 i) (fh : HbBuf0 (F := F) c hbM0_0) :
    sout0_A_1 c i a1 h1 a3 h3 a4 h4 a5 h5 a6 h6 a7 h7 a8 h8 hc x0 x1 x2 x3 fh
      = k0_pay1 (k0_pay3 (topRows fh) x1) k0_pay5 (k0_pay6 (topRows fh) x1) 1#32 := by
  unfold sout0_A_1
  rw [View.read_writes_eq_canon _ _ _ (scover0_A_1 c i a1 h1 a3 h3 a4 h4 a5 h5 a6 h6 a7 h7 a8 h8 hc x0 x1 x2 x3 fh)]
  unfold kernelRun0_A
  dsimp only
  sl_unfold_words
  rw [View.canon_cons_unit_zero (S := S1024x1024) zeros2]
  simp only [View.readAt_eq_ld, h3.read_unread, View.ld_unit_zero (S := S1x1x1024) zeros3]
  rw [readBack, copied_eq]

/-- The first point stores the block combined from the scratch it has just filled. -/
theorem out_A (hc : cond0_0 i) (fh : HbBuf0 (F := F) c hbM0_0) :
    out0_A_4 c i a1 h1 a3 h3 a4 h4 a5 h5 a6 h6 a7 h7 a8 h8 hc x0 x1 x2 x3 fh
      = k0_pay2 (k0_pay4 (topRows fh) x1) x2
          (k0_pay1 (k0_pay3 (topRows fh) x1) k0_pay5 (k0_pay6 (topRows fh) x1) 1#32) x3 x0 := by
  unfold out0_A_4
  rw [View.read_writes_eq_canon _ _ _ (cover0_A_4 c i a1 h1 a3 h3 a4 h4 a5 h5 a6 h6 a7 h7 a8 h8 hc x0 x1 x2 x3 fh)]
  unfold kernelRun0_A
  dsimp only
  sl_unfold_words
  rw [View.canon_unit_zero zeros3]
  rw [View.readCov_cons_toLoadRect, View.readCov_cons_toLoadRect]
  simp only [View.readAt_eq_ld, h1.read_unread, h3.read_unread, h4.read_unread, h5.read_unread,
    View.ld_unit_zero (S := S4x1024) zeros2, View.ld_unit_zero (S := S1x1x1024) zeros3]
  rw [readBack, copied_eq]

variable (m : (ℓ : Loc nD τ sig) → Buf (Elt F) ℓ)

/-- The grid's first point. -/
abbrev t0 : Fin cfg0.N := ⟨0, by rw [show cfg0.N = 8 from N_0]; decide⟩

/-- The first scratch buffer's contents from the first point on. -/
def rows (c : Dev nD) : Vec F S1024x1024 .f32 := k0_pay4 (topRows (V m c main_arg1)) (iblk m c 1 t0)

/-- The second scratch buffer's contents from the first point on. -/
def swapped (c : Dev nD) : Vec F S1024x1024 .f32 :=
  k0_pay1 (k0_pay3 (topRows (V m c main_arg1)) (iblk m c 1 t0)) k0_pay5 (k0_pay6 (topRows (V m c main_arg1)) (iblk m c 1 t0)) 1#32

/-- Only the first point of the eight fills the scratch. -/
theorem later (n : Nat) (h : n + 1 < cfg0.N) : ¬(⟨n + 1, h⟩ : Fin cfg0.N).val % 8 = 0 := by
  have hN : cfg0.N = 8 := N_0
  dsimp only
  omega

/-- After every point the two scratch buffers hold what the first point left in them. -/
theorem scratch_at (c : Dev nD) : ∀ (n : Nat) (h : n < cfg0.N), (outsAt0 m c n h).2 = (rows m c, swapped m c)
  | 0, h => by
    rw [outsAt0_A m c ⟨0, h⟩ rfl]
    dsimp only
    rw [scratch0_A, scratch1_A]
    rfl
  | n + 1, h => by
    rw [outsAt0_B m c ⟨n + 1, h⟩ (later n h)]
    exact scratch_at c n (Nat.lt_of_succ_lt h)

/-- Every point's block: the scratch combined with the point's own row of cosines and sines, masked by its inputs. -/
theorem block_at (c : Dev nD) (t : Fin cfg0.N) :
    (outsAt0 m c t.val t.isLt).1 = k0_pay2 (rows m c) (iblk m c 2 t) (swapped m c) (iblk m c 3 t) (iblk m c 0 t) := by
  obtain ⟨n, h⟩ := t
  cases n with
  | zero =>
    rw [outsAt0_A m c ⟨0, h⟩ rfl]
    dsimp only
    rw [out_A]
    rfl
  | succ n =>
    rw [outsAt0_B m c ⟨n + 1, h⟩ (later n h)]
    dsimp only
    rw [out_B]
    have e := scratch_at m c n (Nat.lt_of_succ_lt h)
    have e0 : (outsAt0 m c (n + 1 - 1) (Nat.lt_of_le_of_lt (Nat.sub_le _ _) h)).2 = (rows m c, swapped m c) := e
    rw [e0]

end Cert.KernelIdeal.Block

end
-- ==== Proof.Array.lean ====
/- The kernel's result array read at an index: the block of the grid point the index falls in. And what a grid point's
   input blocks read of the arrays they are cut from. -/
module

public import proofs.«01_k».proof.Proof.Block

@[expose] public section

set_option maxRecDepth 16384

noncomputable section

namespace Cert.KernelIdeal.Array

open Cert.KernelIdeal Cert.KernelIdeal.Gen Cert.KernelIdeal.Block Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (c : Dev nD)

/-- The grid point whose block holds sequence position `s`. -/
def pt (s : Fin 8192) : Fin cfg0.N := ⟨s.val / 1024, by rw [show cfg0.N = 8 from N_0]; have := s.isLt; omega⟩

/-- The index of batch `b`, sequence position `s`, lane `d` in the result. -/
def oIx (b : Fin 4) (s : Fin 8192) (d : Fin 1024) : S4x8192x1024.Idx := fun a => match a with
  | ⟨0, _⟩ => b
  | ⟨1, _⟩ => s
  | ⟨2, _⟩ => d

/-- Its index inside its block. -/
def bIx (b : Fin 4) (s : Fin 8192) (d : Fin 1024) : S4x1024x1024.Idx := fun a => match a with
  | ⟨0, _⟩ => b
  | ⟨1, _⟩ => ⟨s.val % 1024, Nat.mod_lt _ (by decide)⟩
  | ⟨2, _⟩ => d

/-- The output window's block index at a point: batch 0, block `t`, lane 0. -/
theorem index4 : ∀ t : Fin cfg0.N, win0_4.index t 0 = 0 ∧ win0_4.index t 1 = t.val ∧ win0_4.index t 2 = 0 :=
  (by decide +kernel : ∀ t : Fin grid0.N, win0_4.index t 0 = 0 ∧ win0_4.index t 1 = t.val ∧ win0_4.index t 2 = 0)

/-- The input window's block index at a point. -/
theorem index0 : ∀ t : Fin cfg0.N, win0_0.index t 0 = 0 ∧ win0_0.index t 1 = t.val :=
  (by decide +kernel : ∀ t : Fin grid0.N, win0_0.index t 0 = 0 ∧ win0_0.index t 1 = t.val)

/-- The next-row window's block index: the whole array, at every point. -/
theorem index1 : ∀ t : Fin cfg0.N, win0_1.index t 0 = 0 ∧ win0_1.index t 1 = 0 ∧ win0_1.index t 2 = 0 :=
  (by decide +kernel : ∀ t : Fin grid0.N, win0_1.index t 0 = 0 ∧ win0_1.index t 1 = 0 ∧ win0_1.index t 2 = 0)

/-- The cosine window's block index at a point. -/
theorem index2 : ∀ t : Fin cfg0.N, win0_2.index t 0 = t.val ∧ win0_2.index t 1 = 0 ∧ win0_2.index t 2 = 0 :=
  (by decide +kernel : ∀ t : Fin grid0.N, win0_2.index t 0 = t.val ∧ win0_2.index t 1 = 0 ∧ win0_2.index t 2 = 0)

/-- The sine window's block index at a point. -/
theorem index3 : ∀ t : Fin cfg0.N, win0_3.index t 0 = t.val ∧ win0_3.index t 1 = 0 ∧ win0_3.index t 2 = 0 :=
  (by decide +kernel : ∀ t : Fin grid0.N, win0_3.index t 0 = t.val ∧ win0_3.index t 1 = 0 ∧ win0_3.index t 2 = 0)

/-- Every point writes its block back. -/
theorem flush_all : ∀ t : Fin cfg0.N, (cfg0.win 4).flush t = true :=
  (by decide +kernel : ∀ t : Fin grid0.N, (cfg0.win 4).flush t = true)

/-- The result array at an index is its point's block at the index inside the block. -/
theorem final_apply (b : Fin 4) (s : Fin 8192) (d : Fin 1024) :
    (dats m 0 c).arrAt 4 cfg0.N (oIx b s d)
      = k0_pay2 (rows m c) (iblk m c 2 (pt s)) (swapped m c) (iblk m c 3 (pt s)) (iblk m c 0 (pt s)) (bIx b s d) := by
  have h := Value.blocks4 m c (pt s) (flush_all (pt s))
  rw [Value.flushed4, block_at] at h
  have h' := congrFun h (bIx b s d)
  rw [View.read_apply] at h'
  refine Eq.trans (congrArg _ ?_) h'
  obtain ⟨e0, e1, e2⟩ := index4 (pt s)
  funext a
  apply Fin.ext
  match a with
  | ⟨0, _⟩ => show b.val = win0_4.index (pt s) 0 * 4 + 1 * b.val; rw [e0]; omega
  | ⟨1, _⟩ =>
    show s.val = win0_4.index (pt s) 1 * 1024 + 1 * (s.val % 1024)
    rw [e1]
    show s.val = s.val / 1024 * 1024 + 1 * (s.val % 1024)
    omega
  | ⟨2, _⟩ => show d.val = win0_4.index (pt s) 2 * 1024 + 1 * d.val; rw [e2]; omega

/-- A point's block of the input reads the input at the block's own positions. -/
theorem iblk0_apply (t : Fin cfg0.N) (j : S4x1024.Idx) (x : S4x8192.Idx) (h0 : (x 0).val = (j 0).val)
    (h1 : (x 1).val = t.val * 1024 + (j 1).val) :
    (iblk m c 0 t : Vec F S4x1024 .i32) j = m ((c : Thread nD τ).loc main_arg0) x := by
  rw [← V_main_arg0 m c]
  unfold iblk
  rw [View.read_apply]
  obtain ⟨e0, e1⟩ := index0 t
  show V m c main_arg0 _ = V m c main_arg0 x
  congr 1
  funext a
  apply Fin.ext
  match a with
  | ⟨0, _⟩ => show win0_0.index t 0 * 4 + 1 * (j 0).val = (x 0).val; rw [e0]; omega
  | ⟨1, _⟩ => show win0_0.index t 1 * 1024 + 1 * (j 1).val = (x 1).val; rw [e1]; omega

/-- The next-row block is its array. -/
theorem iblk1_apply (t : Fin cfg0.N) (j x : S1x1x1024.Idx) (h2 : (x 2).val = (j 2).val) :
    (iblk m c 1 t : Vec F S1x1x1024 .f32) j = (V m c main_v30 : Vec F S1x1x1024 .f32) x := by
  unfold iblk
  rw [View.read_apply]
  obtain ⟨e0, e1, e2⟩ := index1 t
  show V m c main_v30 _ = V m c main_v30 x
  have x0 : (x 0).val < 1 := (x 0).isLt
  have x1 : (x 1).val < 1 := (x 1).isLt
  have j0 : (j 0).val < 1 := (j 0).isLt
  have j1 : (j 1).val < 1 := (j 1).isLt
  congr 1
  funext a
  apply Fin.ext
  match a with
  | ⟨0, _⟩ => show win0_1.index t 0 * 1 + 1 * (j 0).val = (x 0).val; rw [e0]; omega
  | ⟨1, _⟩ => show win0_1.index t 1 * 1 + 1 * (j 1).val = (x 1).val; rw [e1]; omega
  | ⟨2, _⟩ => show win0_1.index t 2 * 1024 + 1 * (j 2).val = (x 2).val; rw [e2]; omega

/-- A point's block of cosines is the point's row of its array. -/
theorem iblk2_apply (t : Fin cfg0.N) (j : S1x1x1024.Idx) (x : S8x1x1024.Idx) (h0 : (x 0).val = t.val) (h2 : (x 2).val = (j 2).val) :
    (iblk m c 2 t : Vec F S1x1x1024 .f32) j = (V m c main_v19 : Vec F S8x1x1024 .f32) x := by
  unfold iblk
  rw [View.read_apply]
  obtain ⟨e0, e1, e2⟩ := index2 t
  show V m c main_v19 _ = V m c main_v19 x
  have x1 : (x 1).val < 1 := (x 1).isLt
  have j0 : (j 0).val < 1 := (j 0).isLt
  have j1 : (j 1).val < 1 := (j 1).isLt
  congr 1
  funext a
  apply Fin.ext
  match a with
  | ⟨0, _⟩ => show win0_2.index t 0 * 1 + 1 * (j 0).val = (x 0).val; rw [e0]; omega
  | ⟨1, _⟩ => show win0_2.index t 1 * 1 + 1 * (j 1).val = (x 1).val; rw [e1]; omega
  | ⟨2, _⟩ => show win0_2.index t 2 * 1024 + 1 * (j 2).val = (x 2).val; rw [e2]; omega

/-- A point's block of signed sines is the point's row of its array. -/
theorem iblk3_apply (t : Fin cfg0.N) (j : S1x1x1024.Idx) (x : S8x1x1024.Idx) (h0 : (x 0).val = t.val) (h2 : (x 2).val = (j 2).val) :
    (iblk m c 3 t : Vec F S1x1x1024 .f32) j = (V m c main_v28 : Vec F S8x1x1024 .f32) x := by
  unfold iblk
  rw [View.read_apply]
  obtain ⟨e0, e1, e2⟩ := index3 t
  show V m c main_v28 _ = V m c main_v28 x
  have x1 : (x 1).val < 1 := (x 1).isLt
  have j0 : (j 0).val < 1 := (j 0).isLt
  have j1 : (j 1).val < 1 := (j 1).isLt
  congr 1
  funext a
  apply Fin.ext
  match a with
  | ⟨0, _⟩ => show win0_3.index t 0 * 1 + 1 * (j 0).val = (x 0).val; rw [e0]; omega
  | ⟨1, _⟩ => show win0_3.index t 1 * 1 + 1 * (j 1).val = (x 1).val; rw [e1]; omega
  | ⟨2, _⟩ => show win0_3.index t 2 * 1024 + 1 * (j 2).val = (x 2).val; rw [e2]; omega

end Cert.KernelIdeal.Array

end
-- ==== Proof.Payload.lean ====
/- The values one grid point computes, read at an index: the rows the first scratch buffer holds, the second buffer's exchanged
   lanes, and the stored block. -/
module

public import proofs.«01_k».proof.Proof.Array
public import Idealize.ShloMosaic.Lib.KernelVsHost
public import Idealize.ShloMosaic.Lib.ValueIdxCore

@[expose] public section

set_option maxRecDepth 16384

noncomputable section

namespace Cert.KernelIdeal.Payload

open Cert.KernelIdeal Cert.KernelIdeal.Gen Cert.KernelIdeal.Block Idealize.ShloMosaic Idealize.ShloMosaic.TcCoe
open Idealize.ShloMosaic.ValueIdx

/-- The other lane of lane `d`'s pair. -/
def mate (d : Fin 1024) : Fin 1024 :=
  if h : d.val % 2 = 0 then ⟨d.val + 1, by have := d.isLt; omega⟩ else ⟨d.val - 1, by have := d.isLt; omega⟩

/-- The mate of an even lane is the next one. -/
theorem mate_even (d : Fin 1024) (h : d.val % 2 = 0) : (mate d).val = d.val + 1 := by
  unfold mate; rw [dif_pos h]

/-- The mate of an odd lane is the one before. -/
theorem mate_odd (d : Fin 1024) (h : ¬d.val % 2 = 0) : (mate d).val = d.val - 1 := by
  unfold mate; rw [dif_neg h]

/-- A one-row block seen as a row repeated on every row, read at a lane. -/
theorem row_apply {F : FTy → Type} [FloatOps F] (v : Vec F S1x1x1024 .f32) (k d : Fin 1024) :
    broadcastTo S1024x1024 (shapeCast S1x1024 v shapeCasts_S1x1x1024_S1x1024) broadcasts_S1x1024_S1024x1024 (ix2 k d)
      = v (ix3 0 0 d) := by
  rw [broadcastTo_apply _ _ (ix2 k d) (ix2 (0 : Fin 1) d : S1x1024.Idx)]
  · refine shapeCast_apply _ _ _ (ix3 0 0 d : S1x1x1024.Idx) ?_
    rw [Shape.rowMajor_val_three, Shape.rowMajor_val_two]
    show (0 * 1 + 0) * 1024 + d.val = 0 * 1024 + d.val
    omega
  · intro a
    match a with
    | ⟨0, _⟩ => rfl
    | ⟨1, _⟩ => rfl

/-- A cast to the same shape changes nothing. -/
theorem cast_self {s : Shape} {α : Type} (x : s.Idx → α) (h : s.ShapeCasts s) : shapeCast s x h = x :=
  funext fun j => shapeCast_apply x h j j rfl

/-- Rows of the first scratch buffer: every row but the last is the next row of the copy. -/
theorem next_apply {F : FTy → Type} [FloatOps F] (v27 : Vec F S1024x1024 .f32) (v32 : Vec F S1x1x1024 .f32) (k d : Fin 1024) :
    k0_pay3 v27 v32 (ix2 k d)
      = if h : k.val = 1023 then v32 (ix3 0 0 d) else v27 (ix2 ⟨k.val + 1, by have := k.isLt; omega⟩ d) := by
  unfold k0_pay3
  dsimp only
  rw [cast_self]
  show (if cmpi .eq (iota .tc S1024x1024 32 [0] iota_S1024x1024_d0_w32) (broadcast S1024x1024 1023#32) (ix2 k d) = 1#1 then
    broadcastTo S1024x1024 (shapeCast S1x1024 v32 shapeCasts_S1x1x1024_S1x1024) broadcasts_S1x1024_S1024x1024 (ix2 k d)
    else dynamicRotate 0 1023#32 none v27 rotates_S1024x1024_d0 (ix2 k d)) = _
  have hm : ∀ k : Fin 1024, IntOp.cmpi .eq (BitVec.ofNat 32 (0 * 1024 + k.val)) 1023#32 = if k.val = 1023 then 1#1 else 0#1 := by
    decide +kernel
  have hc : cmpi .eq (iota .tc S1024x1024 32 [0] iota_S1024x1024_d0_w32) (broadcast S1024x1024 1023#32) (ix2 k d)
      = if k.val = 1023 then 1#1 else 0#1 := hm k
  rw [hc]
  by_cases h : k.val = 1023
  · rw [if_pos h, if_pos rfl, dif_pos h, row_apply]
  · rw [if_neg h, if_neg (by decide), dif_neg h]
    refine dynamicRotate_apply _ _ _ _ _ _ fun b => ?_
    have hk := k.isLt
    match b with
    | ⟨0, _⟩ => show k.val + 1 = (k.val + 1024 - 1023 % 1024) % 1024; omega
    | ⟨1, _⟩ => rfl

/-- The mask of even lanes. -/
theorem even_apply (k d : Fin 1024) : k0_pay5 (ix2 k d) = if d.val % 2 = 0 then 1#1 else 0#1 := by
  revert k
  revert d
  have key : ∀ d : Fin 1024,
      IntOp.cmpi .eq (Scalar.select (IntOp.andi (IntOp.xori (IntOp.cmpi .slt (IntOp.remsi .vector (BitVec.ofNat 32 (0 * 1024 + d.val)) 2#32) 0#32) 0#1)
        (IntOp.cmpi .ne (IntOp.remsi .vector (BitVec.ofNat 32 (0 * 1024 + d.val)) 2#32) 0#32))
        (IntOp.addi (IntOp.remsi .vector (BitVec.ofNat 32 (0 * 1024 + d.val)) 2#32) 2#32) (IntOp.remsi .vector (BitVec.ofNat 32 (0 * 1024 + d.val)) 2#32)) 0#32
        = if d.val % 2 = 0 then 1#1 else 0#1 := by decide +kernel
  exact fun d k => key d

/-- The second scratch buffer holds, at a lane, the first one's value at the lane's mate. -/
theorem exchanged_apply {F : FTy → Type} [FloatOps F] (v27 : Vec F S1024x1024 .f32) (v32 : Vec F S1x1x1024 .f32) (k d : Fin 1024) :
    k0_pay1 (k0_pay3 v27 v32) k0_pay5 (k0_pay6 v27 v32) 1#32 (ix2 k d) = k0_pay3 v27 v32 (ix2 k (mate d)) := by
  unfold k0_pay1
  dsimp only
  rw [cast_self]
  show (if k0_pay5 (ix2 k d) = 1#1 then k0_pay6 v27 v32 (ix2 k d)
    else dynamicRotate 1 1#32 none (k0_pay3 v27 v32) rotates_S1024x1024_d1 (ix2 k d)) = _
  rw [even_apply]
  have hd := d.isLt
  by_cases h : d.val % 2 = 0
  · rw [if_pos h, if_pos rfl]
    unfold k0_pay6
    refine dynamicRotate_apply _ _ _ _ _ _ fun b => ?_
    match b with
    | ⟨0, _⟩ => rfl
    | ⟨1, _⟩ => show (mate d).val = (d.val + 1024 - 1023 % 1024) % 1024; rw [mate_even d h]; omega
  · rw [if_neg h, if_neg (by decide)]
    refine dynamicRotate_apply _ _ _ _ _ _ fun b => ?_
    match b with
    | ⟨0, _⟩ => rfl
    | ⟨1, _⟩ => show (mate d).val = (d.val + 1024 - 1 % 1024) % 1024; rw [mate_odd d h]; omega

/-- The stored block at batch `b`, row `k`, lane `d`. -/
theorem stored_apply (v3 : Vec Ideal S1024x1024 .f32) (v4 : Vec Ideal S1x1x1024 .f32) (v8 : Vec Ideal S1024x1024 .f32)
    (v9 : Vec Ideal S1x1x1024 .f32) (v14 : Vec Ideal S4x1024 .i32) (b : Fin 4) (k d : Fin 1024) :
    k0_pay2 v3 v4 v8 v9 v14 (ix3 b k d)
      = ((v3 (ix2 k d) * v4 (ix3 0 0 d) + v8 (ix2 k d) * v9 (ix3 0 0 d) : EReal)
          * (if v14 (ix2 b k) = 0#32 then 0 else 1 : EReal) : EReal) := by
  unfold k0_pay2
  show ((broadcastTo S4x1024x1024 _ broadcasts_S1x1024x1024_S4x1024x1024 (ix3 b k d) : EReal)
    * (broadcastTo S4x1024x1024 _ broadcasts_S4x1024x1_S4x1024x1024 (ix3 b k d) : EReal) : EReal) = _
  rw [broadcastTo_apply _ broadcasts_S1x1024x1024_S4x1024x1024 (ix3 b k d) (ix3 (0 : Fin 1) k d : S1x1024x1024.Idx)
      (by intro a; match a with | ⟨0, _⟩ => rfl | ⟨1, _⟩ => rfl | ⟨2, _⟩ => rfl),
    broadcastTo_apply _ broadcasts_S4x1024x1_S4x1024x1024 (ix3 b k d) (ix3 b k (0 : Fin 1) : S4x1024x1.Idx)
      (by intro a; match a with | ⟨0, _⟩ => rfl | ⟨1, _⟩ => rfl | ⟨2, _⟩ => rfl),
    shapeCast_apply _ shapeCasts_S1024x1024_S1x1024x1024 _ (ix2 k d : S1024x1024.Idx) (by
      rw [Shape.rowMajor_val_three, Shape.rowMajor_val_two]
      show k.val * 1024 + d.val = (0 * 1024 + k.val) * 1024 + d.val
      omega),
    shapeCast_apply _ shapeCasts_S4x1024_S4x1024x1 _ (ix2 b k : S4x1024.Idx) (by
      rw [Shape.rowMajor_val_three, Shape.rowMajor_val_two]
      show b.val * 1024 + k.val = (b.val * 1024 + k.val) * 1 + 0
      omega)]
  show ((v3 (ix2 k d) * broadcastTo S1024x1024 (shapeCast S1x1024 v4 shapeCasts_S1x1x1024_S1x1024) broadcasts_S1x1024_S1024x1024 (ix2 k d)
      + v8 (ix2 k d) * broadcastTo S1024x1024 (shapeCast S1x1024 v9 shapeCasts_S1x1x1024_S1x1024) broadcasts_S1x1024_S1024x1024 (ix2 k d) : EReal)
    * (((((IntOp.cmpi .ne (v14 (ix2 b k)) 0#32).zeroExtend 32).toInt : ℝ) : EReal))) = _
  rw [row_apply, row_apply]
  congr 1
  by_cases h : v14 (ix2 b k) = 0#32
  · rw [if_pos h, h]
    have : ((IntOp.cmpi .ne (0#32) 0#32).zeroExtend 32).toInt = 0 := by decide
    rw [this]; simp
  · rw [if_neg h]
    have h1 : IntOp.cmpi .ne (v14 (ix2 b k)) 0#32 = 1#1 := by
      show BitVec.ofBool (v14 (ix2 b k) != 0#32) = 1#1
      rw [show (v14 (ix2 b k) != 0#32) = true from bne_iff_ne.2 h]
      rfl
    have : ((1#1).zeroExtend 32).toInt = 1 := by decide
    rw [h1, this]; simp

end Cert.KernelIdeal.Payload

end
-- ==== Proof.RowSet.lean ====
/- The host scatter that replaces row 0 of a matrix, read at an entry, at any extents. -/
module

public import Idealize.ShloMosaic.Lib.Routing.OpsSet

@[expose] public section

namespace Cert.RowSet

open Idealize.ShloMosaic Idealize.ShloMosaic.ValueIdx Idealize.ShloMosaic.Routing

variable {A N : Nat} (g : ScatterDims (shape2 A N) (shape1 1) (shape1 N))

/-- Entry `e` of the update is written at row 0, lane `e`. -/
theorem written_at (hA : 0 < A) (hi : g.insertedWindowDims = [0]) (ht : g.scatterDimsToOperandDims = [0]) (w : IVec (shape1 1) 32)
    (hw : ∀ q, w q = 0#32) (e : (shape1 N).Idx) : g.resultIdx? e w = some (ix2 ⟨0, hA⟩ (e 0)) := by
  have keep : g.sKept = [1] := by
    show (shape2 A N).kept g.insertedWindowDims = _
    rw [hi]
    rfl
  have first0 : g.start e w 0 = 0 := by
    unfold ScatterDims.start
    rw [dif_pos (by rw [ht]; exact List.mem_singleton.2 rfl), hw]
    rfl
  have first1 : g.start e w 1 = 0 := by
    unfold ScatterDims.start
    exact dif_neg fun h => by rw [ht] at h; exact absurd (List.mem_singleton.1 h) (by decide : (1 : Fin 2) ≠ 0)
  have inside0 : g.window e 0 = 0 := by
    unfold ScatterDims.window
    exact dif_neg fun h => by rw [keep] at h; exact absurd (List.mem_singleton.1 h) (by decide : (0 : Fin 2) ≠ 1)
  have inside1 : g.window e 1 = (e 0).val := by
    unfold ScatterDims.window
    rw [dif_pos (by rw [keep]; exact List.mem_singleton.2 rfl)]
    have at0 : ∀ q : Fin 1, (e q).val = (e 0).val := fun q => by rw [Subsingleton.elim q 0]
    exact at0 _
  have he : (e 0).val < N := (e 0).isLt
  unfold ScatterDims.resultIdx?
  rw [dif_pos fun a => match a with
    | ⟨0, _⟩ => by
      show 0 ≤ g.start e w 0 + (g.window e 0 : Int) ∧ g.start e w 0 + (g.window e 0 : Int) < (A : Int)
      rw [first0, inside0]; omega
    | ⟨1, _⟩ => by
      show 0 ≤ g.start e w 1 + (g.window e 1 : Int) ∧ g.start e w 1 + (g.window e 1 : Int) < (N : Int)
      rw [first1, inside1]; omega]
  congr 1
  funext a
  apply Fin.ext
  match a with
  | ⟨0, _⟩ => show (g.start e w 0 + (g.window e 0 : Int)).toNat = 0; rw [first0, inside0]; rfl
  | ⟨1, _⟩ => show (g.start e w 1 + (g.window e 1 : Int)).toNat = (e 0).val; rw [first1, inside1]; omega

/-- The matrix with row 0 replaced: the update on row 0, the matrix itself on every other row. -/
theorem replaced_apply {α : Type} (hA : 0 < A) (hi : g.insertedWindowDims = [0]) (ht : g.scatterDimsToOperandDims = [0])
    (w : IVec (shape1 1) 32) (hw : ∀ q, w q = 0#32) (x : (shape2 A N).Idx → α) (u : (shape1 N).Idx → α) (r : Fin A) (e : Fin N) :
    Host.scatter g (fun _ b => b) x w u (ix2 r e) = if r.val = 0 then u (ix1 e) else x (ix2 r e) := by
  by_cases h : r.val = 0
  · rw [if_pos h]
    have hr : r = ⟨0, hA⟩ := Fin.ext h
    refine scatter_set_hit g x w u _ _ (fun k hk => ?_) (ix1 e) (by rw [written_at g hA hi ht w hw, hr]; rfl)
    rw [written_at g hA hi ht w hw k] at hk
    have hk1 : k 0 = e := congrFun (Option.some.inj hk) (1 : Fin 2)
    exact congrArg u ((eq_ix1 k).trans (congrArg ix1 hk1))
  · rw [if_neg h]
    refine scatter_set_miss g x w u _ fun k hk => h ?_
    rw [written_at g hA hi ht w hw k] at hk
    have h0 : (⟨0, hA⟩ : Fin A) = r := congrFun (Option.some.inj hk) (0 : Fin 2)
    exact (congrArg Fin.val h0).symm

end Cert.RowSet
-- ==== Proof.Host.lean ====
/- The three arrays the kernel's wrapper prepares from the table: each block's cosines of the block's base position, its signed
   sines, and the row after the copied rows; each read at an index. -/
module

public import proofs.«01_k».proof.Proof.Payload
public import proofs.«01_k».proof.Proof.RowSet
public import Idealize.ShloMosaic.Lib.Claim

@[expose] public section

set_option maxRecDepth 16384

noncomputable section

namespace Cert.KernelIdeal.Prepared

open Cert.KernelIdeal Cert.KernelIdeal.Gen Cert.KernelIdeal.Block Idealize.ShloMosaic Idealize.ShloMosaic.TcCoe
open Idealize.ShloMosaic.ValueIdx

variable {F : FTy → Type} [FloatOps F]

/-- The table rows the eight blocks start from: `0, 1024, …, 7168`, a negative one wrapped. -/
def starts : IVec S8 32 :=
  select (cmpi .slt (muli (iotaInDim S8 32 0) (broadcastInDim S8 ![] bcast_S_S8 (constantI S_ 32 1024#32)))
      (broadcastInDim S8 ![] bcast_S_S8 (constantI S_ 32 0#32)))
    (addi (muli (iotaInDim S8 32 0) (broadcastInDim S8 ![] bcast_S_S8 (constantI S_ 32 1024#32)))
      (broadcastInDim S8 ![] bcast_S_S8 (constantI S_ 32 8193#32)))
    (muli (iotaInDim S8 32 0) (broadcastInDim S8 ![] bcast_S_S8 (constantI S_ 32 1024#32)))

/-- Two words repeated along the 1024 lanes. -/
def alternating (l : Fin 2 → BitVec 32) : FVec F S1024 .f32 :=
  shapeCast S1024 (broadcastInDim S512x2 ![0, 1] bcast_S1x2_S512x2_0_1
    (shapeCast S1x2 (fun i => FloatOps.ofBits .f32 (l (S2.rowMajor i)) : FVec F S2 .f32) shapeCasts_S2_S1x2)) shapeCasts_S512x2_S1024

/-- The eight base rows, row 0 replaced by the sines and cosines of zero. -/
def bases (w : FVec F S8193x1024 .f32) : FVec F S8x1024 .f32 :=
  Host.scatter scatter_S8x1024_S1_S1024_0_0_0_0 (fun _ b => b)
    (Host.gather gather_S8193x1024_S8x1_S8x1024_1_0_n_n_0_1_11024 w (broadcastInDim S8x1 ![0] bcast_S8_S8x1_0 starts))
    (broadcastInDim S1 ![] bcast_S_S1 (constantI S_ 32 0#32)) (alternating lit0)

/-- The base rows' lanes in pairs. -/
def pairs (w : FVec F S8193x1024 .f32) : FVec F S8x512x2 .f32 := shapeCast S8x512x2 (bases w) shapeCasts_S8x1024_S8x512x2

/-- The cosine of each pair on both its lanes. -/
def cosines (w : FVec F S8193x1024 .f32) : FVec F S8x1x1024 .f32 :=
  shapeCast S8x1x1024 (broadcastInDim S8x512x2 ![0, 1, 2] bcast_S8x512x1_S8x512x2_0_1_2
    (extractStridedSlice S8x512x1 ![0, 0, 1] (pairs w) slices_S8x512x2_S8x512x1_0_0_1)) shapeCasts_S8x512x2_S8x1x1024

/-- The sine of each pair on both its lanes, negated on the odd one. -/
def sines (w : FVec F S8193x1024 .f32) : FVec F S8x1x1024 .f32 :=
  shapeCast S8x1x1024 (mulf
    (shapeCast S8x1024 (broadcastInDim S8x512x2 ![0, 1, 2] bcast_S8x512x1_S8x512x2_0_1_2
      (extractStridedSlice S8x512x1 ![0, 0, 0] (pairs w) slices_S8x512x2_S8x512x1_0_0_0)) shapeCasts_S8x512x2_S8x1024)
    (broadcastInDim S8x1024 ![0, 1] bcast_S1x1024_S8x1024_0_1
      (broadcastInDim S1x1024 ![1] bcast_S1024_S1x1024_1 (alternating lit1)))) shapeCasts_S8x1024_S8x1x1024

/-- The table's row 1024. -/
def after (w : FVec F S8193x1024 .f32) : FVec F S1x1x1024 .f32 :=
  shapeCast S1x1x1024 (extractStridedSlice S1x1024 ![1024, 0] w slices_S8193x1024_S1x1024_1024_0) shapeCasts_S1x1024_S1x1x1024

variable (m : (ℓ : Loc nD τ sig) → Buf (Elt F) ℓ) (c : Dev nD)

/-- The wrapper's cosine array. -/
theorem V_cosines : V m c main_v19 = cosines (m ((c : Thread nD τ).loc main_arg1)) := by
  show StableHlo.after hostOps0 _ (Proc.devRef .tc main_v19) = _
  after_results
  rfl

/-- The wrapper's sine array. -/
theorem V_sines : V m c main_v28 = sines (m ((c : Thread nD τ).loc main_arg1)) := by
  show StableHlo.after hostOps0 _ (Proc.devRef .tc main_v28) = _
  after_results
  rfl

/-- The wrapper's next row. -/
theorem V_after : V m c main_v30 = after (m ((c : Thread nD τ).loc main_arg1)) := by
  show StableHlo.after hostOps0 _ (Proc.devRef .tc main_v30) = _
  after_results
  rfl

/-- The block starts as words. -/
theorem starts_apply (r : Fin 8) : starts (ix1 r) = BitVec.ofNat 32 (1024 * r.val) := by
  have key : ∀ r : Fin 8, Scalar.select (IntOp.cmpi .slt (IntOp.muli (BitVec.ofNat 32 r.val) 1024#32) 0#32)
      (IntOp.addi (IntOp.muli (BitVec.ofNat 32 r.val) 1024#32) 8193#32) (IntOp.muli (BitVec.ofNat 32 r.val) 1024#32)
        = BitVec.ofNat 32 (1024 * r.val) := by decide +kernel
  exact key r

/-- The repeated words at a lane: the first word on even lanes, the second on odd ones. -/
theorem alternating_apply (l : Fin 2 → BitVec 32) (d : Fin 1024) :
    (alternating l : FVec F S1024 .f32) (ix1 d) = FloatOps.ofBits .f32 (l ⟨d.val % 2, Nat.mod_lt _ (by decide)⟩) := by
  have hd := d.isLt
  unfold alternating
  rw [shapeCast_apply _ _ (ix1 d) (ix2 ⟨d.val / 2, by omega⟩ ⟨d.val % 2, Nat.mod_lt _ (by decide)⟩ : S512x2.Idx) (by
      rw [Shape.rowMajor_val_one, Shape.rowMajor_val_two]
      show d.val / 2 * 2 + d.val % 2 = d.val
      omega),
    broadcastInDim_apply _ _ _ _ (ix2 0 ⟨d.val % 2, Nat.mod_lt _ (by decide)⟩ : S1x2.Idx)
      (by intro a; match a with | ⟨0, _⟩ => rfl | ⟨1, _⟩ => rfl),
    shapeCast_apply _ _ _ (ix1 ⟨d.val % 2, Nat.mod_lt _ (by decide)⟩ : S2.Idx) (by
      rw [Shape.rowMajor_val_one, Shape.rowMajor_val_two]
      show d.val % 2 = 0 * 2 + d.val % 2
      omega)]
  have e : S2.rowMajor (ix1 ⟨d.val % 2, Nat.mod_lt _ (by decide)⟩ : S2.Idx) = (⟨d.val % 2, Nat.mod_lt _ (by decide)⟩ : Fin 2) := by
    apply Fin.ext
    rw [Shape.rowMajor_val_one]
  exact congrArg (fun q => FloatOps.ofBits .f32 (l q)) e

/-- A base row at a lane. -/
theorem bases_apply (w : FVec F S8193x1024 .f32) (r : Fin 8) (d : Fin 1024) :
    bases w (ix2 r d)
      = if r.val = 0 then FloatOps.ofBits .f32 (lit0 ⟨d.val % 2, Nat.mod_lt _ (by decide)⟩) else w (tIx (1024 * r.val) d.val) := by
  have hr := r.isLt
  unfold bases
  refine (RowSet.replaced_apply scatter_S8x1024_S1_S1024_0_0_0_0 (by decide) rfl rfl
    (broadcastInDim S1 ![] bcast_S_S1 (constantI S_ 32 0#32)) (fun _ => rfl) _ _ r d).trans ?_
  rw [alternating_apply]
  by_cases h : r.val = 0
  · rw [if_pos h, if_pos h]
  · rw [if_neg h, if_neg h]
    rw [Routing.gather_row gather_S8193x1024_S8x1_S8x1024_1_0_n_n_0_1_11024 rfl rfl rfl rfl rfl w _ r d
      ⟨1024 * r.val, by omega⟩ (by
        rw [broadcastInDim_apply _ _ _ _ (ix1 r : S8.Idx) (by intro a; match a with | ⟨0, _⟩ => rfl)]
        exact starts_apply r) (by decide)]
    exact congrArg w (eq_tIx _ _ _ rfl rfl)

/-- A lane of a pair is a lane of its row. -/
theorem pairs_apply (w : FVec F S8193x1024 .f32) (r : Fin 8) (j : Fin 512) (p : Fin 2) :
    pairs w (ix3 r j p) = bases w (ix2 r ⟨2 * j.val + p.val, by have := j.isLt; have := p.isLt; omega⟩) := by
  unfold pairs
  refine shapeCast_apply _ _ _ _ ?_
  rw [Shape.rowMajor_val_three, Shape.rowMajor_val_two]
  show r.val * 1024 + (2 * j.val + p.val) = (r.val * 512 + j.val) * 2 + p.val
  omega

/-- The cosine array at a lane: its pair's odd lane of the base row. -/
theorem cosines_apply (w : FVec F S8193x1024 .f32) (r : Fin 8) (d : Fin 1024) :
    cosines w (ix3 r 0 d) = bases w (ix2 r ⟨2 * (d.val / 2) + 1, by have := d.isLt; omega⟩) := by
  have hd := d.isLt
  unfold cosines
  rw [shapeCast_apply _ _ (ix3 r 0 d : S8x1x1024.Idx) (ix3 r ⟨d.val / 2, by omega⟩ ⟨d.val % 2, Nat.mod_lt _ (by decide)⟩ : S8x512x2.Idx) (by
      rw [Shape.rowMajor_val_three, Shape.rowMajor_val_three]
      show (r.val * 512 + d.val / 2) * 2 + d.val % 2 = (r.val * 1 + 0) * 1024 + d.val
      omega),
    broadcastInDim_apply _ _ _ _ (ix3 r ⟨d.val / 2, by omega⟩ 0 : S8x512x1.Idx)
      (by intro a; match a with | ⟨0, _⟩ => rfl | ⟨1, _⟩ => rfl | ⟨2, _⟩ => rfl),
    extractStridedSlice_apply _ _ _ _ (ix3 r ⟨d.val / 2, by omega⟩ 1 : S8x512x2.Idx)
      (by intro a; match a with
          | ⟨0, _⟩ => show r.val = 0 + r.val; omega
          | ⟨1, _⟩ => show d.val / 2 = 0 + d.val / 2; omega
          | ⟨2, _⟩ => rfl),
    pairs_apply]
  rfl

/-- A product of arrays at an index. -/
theorem product_apply {s : Shape} (x y : FVec F s .f32) (j : s.Idx) : mulf x y j = FloatOps.mulf (x j) (y j) := rfl

/-- The sine array at a lane: its pair's even lane of the base row, times the lane's sign. -/
theorem sines_apply (w : FVec F S8193x1024 .f32) (r : Fin 8) (d : Fin 1024) :
    sines w (ix3 r 0 d) = FloatOps.mulf (bases w (ix2 r ⟨2 * (d.val / 2), by have := d.isLt; omega⟩))
      (FloatOps.ofBits .f32 (lit1 ⟨d.val % 2, Nat.mod_lt _ (by decide)⟩)) := by
  have hd := d.isLt
  unfold sines
  rw [shapeCast_apply _ _ (ix3 r 0 d : S8x1x1024.Idx) (ix2 r d : S8x1024.Idx) (by
      rw [Shape.rowMajor_val_three, Shape.rowMajor_val_two]
      show r.val * 1024 + d.val = (r.val * 1 + 0) * 1024 + d.val
      omega)]
  rw [product_apply,
    shapeCast_apply _ _ (ix2 r d : S8x1024.Idx) (ix3 r ⟨d.val / 2, by omega⟩ ⟨d.val % 2, Nat.mod_lt _ (by decide)⟩ : S8x512x2.Idx) (by
      rw [Shape.rowMajor_val_three, Shape.rowMajor_val_two]
      show (r.val * 512 + d.val / 2) * 2 + d.val % 2 = r.val * 1024 + d.val
      omega),
    broadcastInDim_apply _ _ _ (ix3 r ⟨d.val / 2, by omega⟩ ⟨d.val % 2, Nat.mod_lt _ (by decide)⟩ : S8x512x2.Idx) (ix3 r ⟨d.val / 2, by omega⟩ 0 : S8x512x1.Idx)
      (by intro a; match a with | ⟨0, _⟩ => rfl | ⟨1, _⟩ => rfl | ⟨2, _⟩ => rfl),
    extractStridedSlice_apply _ _ _ _ (ix3 r ⟨d.val / 2, by omega⟩ 0 : S8x512x2.Idx)
      (by intro a; match a with
          | ⟨0, _⟩ => show r.val = 0 + r.val; omega
          | ⟨1, _⟩ => show d.val / 2 = 0 + d.val / 2; omega
          | ⟨2, _⟩ => rfl),
    pairs_apply,
    broadcastInDim_apply _ _ _ (ix2 r d : S8x1024.Idx) (ix2 0 d : S1x1024.Idx)
      (by intro a; match a with | ⟨0, _⟩ => rfl | ⟨1, _⟩ => rfl),
    broadcastInDim_apply _ _ _ _ (ix1 d : S1024.Idx)
      (by intro a; match a with | ⟨0, _⟩ => rfl),
    alternating_apply]
  rfl

/-- The next row at a lane. -/
theorem after_apply (w : FVec F S8193x1024 .f32) (d : Fin 1024) : after w (ix3 0 0 d) = w (tIx 1024 d.val) := by
  unfold after
  rw [shapeCast_apply _ _ (ix3 0 0 d : S1x1x1024.Idx) (ix2 0 d : S1x1024.Idx) (by
      rw [Shape.rowMajor_val_three, Shape.rowMajor_val_two]
      show 0 * 1024 + d.val = (0 * 1 + 0) * 1024 + d.val
      omega)]
  refine extractStridedSlice_apply _ _ _ _ _ fun a => ?_
  match a with
  | ⟨0, _⟩ => rfl
  | ⟨1, _⟩ =>
    show d.val % 1024 = 0 + d.val
    have := d.isLt
    omega

end Cert.KernelIdeal.Prepared

end
-- ==== Proof.Table.lean ====
/- What the precondition says of the table, entry by entry: row 0 is zero, and row `r` holds the sines and cosines of `r` times the
   lane pair's frequency. -/
module

public import proofs.«01_k».proof.Proof.Gen.Pre_sinusoidal
public import proofs.«01_k».proof.Proof.RowSet
public import Idealize.ShloMosaic.Lib.Pipeline.Value
public import Idealize.ShloMosaic.PureOps.Ideal

@[expose] public section

set_option maxRecDepth 16384

noncomputable section

namespace Cert.Pre_sinusoidal.Table

open Cert.Pre_sinusoidal Cert.Pre_sinusoidal.Gen Idealize.ShloMosaic Idealize.ShloMosaic.TcCoe
open Idealize.ShloMosaic.ValueIdx

/-- The logarithm of the frequencies' ratio, as a real number. -/
def ratio : ℝ := (Ideal.ofBits .f32 0xBC93A762#32 : EReal).toReal

/-- The literal is that real number. -/
theorem ratio_eq : (Ideal.ofBits .f32 0xBC93A762#32 : EReal) = (ratio : EReal) := by
  refine (EReal.coe_toReal ?_ ?_).symm
  · simp [Ideal.ofBits, Ideal.ieee]
    rw [← EReal.coe_mul]
    exact EReal.coe_ne_bot _
  · simp [Ideal.ofBits, Ideal.ieee]
    rw [← EReal.coe_mul]
    exact EReal.coe_ne_top _

/-- The frequency of lane pair `j`. -/
def freq (j : Nat) : ℝ := Real.exp ((j : ℝ) * ratio)

/-- The table's entry at row `r` and lane `d`. -/
def entry (r d : Nat) : ℝ :=
  if r = 0 then 0 else if d % 2 = 0 then Real.sin ((r : ℝ) * freq (d / 2)) else Real.cos ((r : ℝ) * freq (d / 2))

/-- The lane's pair, as the precondition computes it. -/
def halves : IVec S1024 32 := fn_floor_divide (F := Ideal) (iotaInDim S1024 32 0) (constantI S_ 32 2#32)

/-- The mask of even lanes, as the precondition computes it. -/
def evens : IVec S1024 1 :=
  cmpi .eq (fn_remainder (F := Ideal) (iotaInDim S1024 32 0) (constantI S_ 32 2#32)) (broadcastInDim S1024 ![] bcast_S_S1024 (constantI S_ 32 0#32))

/-- The frequencies, as the precondition computes them. -/
def freqs : FVec Ideal S1024 .f32 :=
  Host.exp (mulf (sitofp .f32 halves) (broadcastInDim S1024 ![] bcast_S_S1024 (constant S_ .f32 0xBC93A762#32)))

/-- The angles, as the precondition computes them. -/
def angles : FVec Ideal S8193x1024 .f32 :=
  mulf (broadcastInDim S8193x1024 ![0, 1] bcast_S8193x1_S8193x1024_0_1 (broadcastInDim S8193x1 ![0] bcast_S8193_S8193x1_0 (sitofp .f32 (iotaInDim S8193 32 0))))
    (broadcastInDim S8193x1024 ![0, 1] bcast_S1x1024_S8193x1024_0_1 (broadcastInDim S1x1024 ![1] bcast_S1024_S1x1024_1 freqs))

/-- A lane's pair. -/
theorem halves_apply : ∀ d : Fin 1024, halves (ix1 d) = BitVec.ofNat 32 (d.val / 2) := by
  decide +kernel

/-- Whether a lane is even. -/
theorem evens_apply : ∀ d : Fin 1024, evens (ix1 d) = if d.val % 2 = 0 then 1#1 else 0#1 := by
  decide +kernel

/-- A number below 2³¹, as a word read signed. -/
theorem toInt_small (n : Nat) (h : n < 2 ^ 31) : (((BitVec.ofNat 32 n).toInt : ℝ) : EReal) = ((n : ℝ) : EReal) := by
  rw [StableHlo.Predicate.toInt_ofNat_small _ h]
  norm_num

/-- A lane's frequency. -/
theorem freqs_apply (d : Fin 1024) : freqs (ix1 d) = (freq (d.val / 2) : EReal) := by
  have hd := d.isLt
  show Ideal.exp ((((halves (ix1 d)).toInt : ℝ) : EReal) * Ideal.ofBits .f32 0xBC93A762#32 : EReal) = _
  rw [halves_apply, toInt_small _ (by omega), ratio_eq, ← EReal.coe_mul, Ideal.exp_coe]
  rfl

/-- An entry's angle. -/
theorem angles_apply (r : Fin 8193) (d : Fin 1024) : angles (ix2 r d) = (((r.val : ℝ) * freq (d.val / 2) : ℝ) : EReal) := by
  have hr := r.isLt
  have e0 : broadcastInDim S8193x1024 ![0, 1] bcast_S8193x1_S8193x1024_0_1
      (broadcastInDim S8193x1 ![0] bcast_S8193_S8193x1_0 (sitofp .f32 (iotaInDim S8193 32 0) : FVec Ideal S8193 .f32)) (ix2 r d)
        = ((r.val : ℝ) : EReal) := by
    rw [broadcastInDim_apply _ _ _ (ix2 r d : S8193x1024.Idx) (ix2 r 0 : S8193x1.Idx)
        (by intro a; match a with | ⟨0, _⟩ => rfl | ⟨1, _⟩ => rfl),
      broadcastInDim_apply _ _ _ _ (ix1 r : S8193.Idx) (by intro a; match a with | ⟨0, _⟩ => rfl)]
    exact toInt_small r.val (by omega)
  have e1 : broadcastInDim S8193x1024 ![0, 1] bcast_S1x1024_S8193x1024_0_1
      (broadcastInDim S1x1024 ![1] bcast_S1024_S1x1024_1 freqs) (ix2 r d) = (freq (d.val / 2) : EReal) := by
    rw [broadcastInDim_apply _ _ _ (ix2 r d : S8193x1024.Idx) (ix2 0 d : S1x1024.Idx)
        (by intro a; match a with | ⟨0, _⟩ => rfl | ⟨1, _⟩ => rfl),
      broadcastInDim_apply _ _ _ _ (ix1 d : S1024.Idx) (by intro a; match a with | ⟨0, _⟩ => rfl)]
    exact freqs_apply d
  rw [EReal.coe_mul, ← e0, ← e1]
  rfl

/-- The sines and cosines at an entry. -/
theorem waves_apply (r : Fin 8193) (d : Fin 1024) :
    fn_where_1 (F := Ideal) (broadcastInDim S1x1024 ![1] bcast_S1024_S1x1024_1 evens) (Host.sin angles) (Host.cos angles) (ix2 r d)
      = ((if d.val % 2 = 0 then Real.sin ((r.val : ℝ) * freq (d.val / 2)) else Real.cos ((r.val : ℝ) * freq (d.val / 2)) : ℝ) : EReal) := by
  show (if broadcastInDim S8193x1024 ![0, 1] bcast_S1x1024_S8193x1024_0_1
      (broadcastInDim S1x1024 ![1] bcast_S1024_S1x1024_1 evens) (ix2 r d) = 1#1
    then Ideal.sin (angles (ix2 r d)) else Ideal.cos (angles (ix2 r d))) = _
  rw [broadcastInDim_apply _ _ _ (ix2 r d : S8193x1024.Idx) (ix2 0 d : S1x1024.Idx)
      (by intro a; match a with | ⟨0, _⟩ => rfl | ⟨1, _⟩ => rfl),
    broadcastInDim_apply _ _ _ _ (ix1 d : S1024.Idx) (by intro a; match a with | ⟨0, _⟩ => rfl),
    evens_apply, angles_apply]
  by_cases h : d.val % 2 = 0
  · rw [if_pos h, if_pos h, if_pos rfl, Ideal.sin_coe]
  · rw [if_neg h, if_neg h, if_neg (by decide), Ideal.cos_coe]

/-- A proposition whose bit is set holds. -/
theorem of_bit {p : Prop} [Decidable p] (h : BitVec.ofBool (decide p) = 1#1) : p := by
  by_contra hn
  rw [decide_eq_false hn] at h
  exact absurd h (by decide)

/-- A table that meets the precondition holds `entry`. -/
theorem table_apply (x : IVec S4x8192 32) (w : FVec Ideal S8193x1024 .f32) (h : fn (F := Ideal) x w = fun _ => 1#1)
    (r : Fin 8193) (d : Fin 1024) : w (ix2 r d) = (entry r.val d.val : EReal) := by
  have hc : BitVec.ofBool (decide ((w (ix2 r d) : EReal)
      = Host.scatter scatter_S8193x1024_S1_S1024_0_0_0_0 (fun _ b => b)
        (fn_where_1 (F := Ideal) (broadcastInDim S1x1024 ![1] bcast_S1024_S1x1024_1 evens) (Host.sin angles) (Host.cos angles))
        (broadcastInDim S1 ![] bcast_S_S1 (constantI S_ 32 0#32))
        (broadcastInDim S1024 ![] bcast_S_S1024 (constant S_ .f32 0x00000000#32)) (ix2 r d))) = 1#1 := congrFun h (ix2 r d)
  refine (of_bit hc).trans ?_
  refine (RowSet.replaced_apply scatter_S8193x1024_S1_S1024_0_0_0_0 (by decide) rfl rfl
    (broadcastInDim S1 ![] bcast_S_S1 (constantI S_ 32 0#32)) (fun _ => rfl) _ _ r d).trans ?_
  unfold entry
  by_cases h0 : r.val = 0
  · rw [if_pos h0, if_pos h0]
    show (Ideal.ofBits .f32 0x00000000#32 : EReal) = _
    rw [EReal.coe_zero]
    simp [Ideal.ofBits, Ideal.ieee]
  · rw [if_neg h0, if_neg h0]
    exact waves_apply r d

end Cert.Pre_sinusoidal.Table

end
-- ==== Proof.Angle.lean ====
/- Angle addition: an entry of the table is combined from an entry of the first block and the block's base angle. -/
module

public import proofs.«01_k».proof.Proof.Table

@[expose] public section

noncomputable section

namespace Cert.Angle

open Cert.Pre_sinusoidal.Table

/-- The sign of a lane's sine term. -/
def sign (d : Nat) : ℝ := if d % 2 = 0 then 1 else -1

/-- On an even lane, an entry of a later row is the sine of a sum. -/
theorem sum_even (i k d e : Nat) (hd : d % 2 = 0) (he : e = d + 1) :
    entry (k + 1) d * Real.cos (((1024 * i : Nat) : ℝ) * freq (d / 2))
      + entry (k + 1) e * (Real.sin (((1024 * i : Nat) : ℝ) * freq (d / 2)) * sign d) = entry (1024 * i + k + 1) d := by
  subst he
  have e2 : (d + 1) / 2 = d / 2 := by omega
  unfold entry sign
  rw [if_neg (Nat.succ_ne_zero k), if_pos hd, if_neg (Nat.succ_ne_zero k), if_neg (by omega : ¬(d + 1) % 2 = 0), e2, if_pos hd,
    if_neg (Nat.succ_ne_zero _), if_pos hd, mul_one, ← Real.sin_add, ← add_mul]
  congr 2
  push_cast
  ring

/-- On an odd lane, an entry of a later row is the cosine of a sum. -/
theorem sum_odd (i k d e : Nat) (hd : ¬d % 2 = 0) (he : e = d - 1) :
    entry (k + 1) d * Real.cos (((1024 * i : Nat) : ℝ) * freq (d / 2))
      + entry (k + 1) e * (Real.sin (((1024 * i : Nat) : ℝ) * freq (d / 2)) * sign d) = entry (1024 * i + k + 1) d := by
  subst he
  have e2 : (d - 1) / 2 = d / 2 := by omega
  unfold entry sign
  rw [if_neg (Nat.succ_ne_zero k), if_neg hd, if_neg (Nat.succ_ne_zero k), if_pos (by omega : (d - 1) % 2 = 0), e2, if_neg hd,
    if_neg (Nat.succ_ne_zero _), if_neg hd, mul_neg_one, mul_neg, ← sub_eq_add_neg, ← Real.cos_add, ← add_mul]
  congr 2
  push_cast
  ring

end Cert.Angle

end
-- ==== Proof.Reference.lean ====
/- What the reference computes, read at an index: the table's row for the position, row 0 where the input is padding. -/
module

public import proofs.«01_k».proof.Proof.Gen.ReferenceIdeal.Read
public import Idealize.ShloMosaic.Lib.ReduceAll
public import Idealize.ShloMosaic.Lib.Routing.Ops

@[expose] public section

set_option maxRecDepth 16384

noncomputable section

namespace Cert.ReferenceIdeal.Looked

open Cert.ReferenceIdeal Cert.ReferenceIdeal.Gen Cert.ReferenceIdeal.Read Idealize.ShloMosaic Idealize.ShloMosaic.TcCoe
open Idealize.ShloMosaic.ValueIdx

variable {F : FTy → Type} [FloatOps F]
variable (x0 : (⟨S4x8192, .i32⟩ : BufTy).Contents (Elt F)) (x1 : (⟨S8193x1024, .f32⟩ : BufTy).Contents (Elt F))

/-- The table row the reference looks up at batch `b`, position `s`. -/
def row (b : Fin 4) (s : Fin 8192) : Nat := if (x0 (ix2 b s) : BitVec 32) = 0#32 then 0 else s.val + 1

/-- The row is a row of the table. -/
theorem row_le (b : Fin 4) (s : Fin 8192) : row (F := F) x0 b s ≤ 8192 := by
  unfold row
  have := s.isLt
  split <;> omega

/-- The position word at an index is the row as a word. -/
theorem position_apply (b : Fin 4) (s : Fin 8192) : val_main_v6 (F := F) x0 (ix2 b s) = BitVec.ofNat 32 (row (F := F) x0 b s) := by
  rw [val_main_v6_apply, val_main_v4_apply, val_main_v3_apply, val_main_c_0_apply, val_main_call0_v0_apply, val_main_v5_apply,
    val_main_v2_apply, val_main_v1_apply, val_main_c_apply, val_main_v0_apply]
  show (if BitVec.ofBool ((x0 (ix2 b s) : BitVec 32) != 0#32) = 1#1 then 1#32 + BitVec.ofNat 32 s.val else (x0 (ix2 b s) : BitVec 32)) = _
  unfold row
  by_cases h : (x0 (ix2 b s) : BitVec 32) = 0#32
  · rw [if_pos h, h]
    rfl
  · rw [if_neg h, show ((x0 (ix2 b s) : BitVec 32) != 0#32) = true from bne_iff_ne.2 h, if_pos (by decide), BitVec.add_comm]
    exact (BitVec.ofNat_add s.val 1).symm

/-- The batch of flat position `n`. -/
def batch (n : Fin 32768) : Fin 4 := ⟨n.val / 8192, by have := n.isLt; omega⟩

/-- The sequence position of flat position `n`. -/
def place (n : Fin 32768) : Fin 8192 := ⟨n.val % 8192, Nat.mod_lt _ (by decide)⟩

/-- The flattened position words. -/
theorem flat_apply (n : Fin 32768) : val_main_v7 (F := F) x0 (ix1 n) = BitVec.ofNat 32 (row (F := F) x0 (batch n) (place n)) := by
  rw [val_main_v7_apply, ← position_apply]
  exact congrArg _ (by funext a; match a with | ⟨0, _⟩ => rfl | ⟨1, _⟩ => rfl)

/-- Words of rows are not negative, and at most 8192, read signed. -/
theorem words (n : Nat) (h : n ≤ 8192) : IntOp.cmpi .slt (BitVec.ofNat 32 n) 0#32 = 0#1
    ∧ IntOp.cmpi .sge (BitVec.ofNat 32 n) 0#32 = 1#1 ∧ IntOp.cmpi .sle (BitVec.ofNat 32 n) 8192#32 = 1#1 := by
  have e : (BitVec.ofNat 32 n).toInt = (n : Int) := StableHlo.Predicate.toInt_ofNat_small _ (by omega)
  refine ⟨?_, ?_, ?_⟩
  · show BitVec.ofBool (decide ((BitVec.ofNat 32 n).toInt < (0#32).toInt)) = 0#1
    rw [e, decide_eq_false (by show ¬(n : Int) < 0; omega)]; rfl
  · show BitVec.ofBool (decide ((0#32).toInt ≤ (BitVec.ofNat 32 n).toInt)) = 1#1
    rw [e, decide_eq_true (by show (0 : Int) ≤ n; omega)]; rfl
  · show BitVec.ofBool (decide ((BitVec.ofNat 32 n).toInt ≤ (8192#32).toInt)) = 1#1
    rw [e, decide_eq_true (by show (n : Int) ≤ 8192; omega)]; rfl

/-- The words the take reads its rows at. -/
theorem taken_apply (n : Fin 32768) : val_main_call1_v5 (F := F) x0 (ix2 n 0) = BitVec.ofNat 32 (row (F := F) x0 (batch n) (place n)) := by
  rw [val_main_call1_v5_apply, val_main_call1_v4_apply, val_main_call1_v1_apply, val_main_call1_v0_apply, val_main_call1_c_apply,
    show idx_main_call1_v5 (ix2 n 0) = ix1 n from by funext a; match a with | ⟨0, _⟩ => rfl, flat_apply,
    (words _ (row_le x0 (batch n) (place n))).1]
  rfl

/-- No row is out of the table's range, so the take fills in nothing. -/
theorem in_range (n : Fin 32768) : val_main_call1_v12 (F := F) x0 (ix1 n) = 1#1 := by
  unfold val_main_call1_v12
  refine Host.reduce_andi_one _ _ _ _ _ rfl fun i => ?_
  obtain ⟨q, rfl⟩ : ∃ q : Fin 32768, i = (ix2 q 0 : S32768x1.Idx) := ⟨i 0, by
    funext a
    match a with
    | ⟨0, _⟩ => rfl
    | ⟨1, _⟩ => exact Subsingleton.elim (α := Fin 1) _ _⟩
  rw [ val_main_call1_v11_apply, val_main_call1_v7_apply, val_main_call1_v10_apply, val_main_call1_v6_apply,
    val_main_call1_c_2_apply, val_main_call1_v9_apply, val_main_call1_v8_apply, val_main_call1_c_1_apply]
  have e := taken_apply (F := F) x0 q
  have w := words _ (row_le (F := F) x0 (batch q) (place q))
  rw [e, w.2.1, w.2.2]
  rfl

/-- The reference's result at batch `b`, position `s`, lane `d`: the table's row at that lane. -/
theorem result_apply (b : Fin 4) (s : Fin 8192) (d : Fin 1024) :
    val_main_v9 (F := F) x0 x1 (ix3 b s d)
      = x1 (ix2 ⟨row (F := F) x0 b s, Nat.lt_succ_of_le (row_le x0 b s)⟩ d) := by
  have hb := b.isLt
  have hs := s.isLt
  have hd := d.isLt
  have hn : b.val * 8192 + s.val < 32768 := by omega
  have e : idx_main_v9 (ix3 b s d) = (ix2 ⟨b.val * 8192 + s.val, hn⟩ d : S32768x1024.Idx) := by
    funext a
    apply Fin.ext
    match a with
    | ⟨0, _⟩ => show ((b.val * 8192 + s.val) * 1024 + d.val) / 1024 = b.val * 8192 + s.val; omega
    | ⟨1, _⟩ => show ((b.val * 8192 + s.val) * 1024 + d.val) % 1024 = d.val; omega
  have eb : batch ⟨b.val * 8192 + s.val, hn⟩ = b := Fin.ext (by show (b.val * 8192 + s.val) / 8192 = b.val; omega)
  have es : place ⟨b.val * 8192 + s.val, hn⟩ = s := Fin.ext (by show (b.val * 8192 + s.val) % 8192 = s.val; omega)
  rw [val_main_v9_apply, e, val_main_v8_apply, val_main_call1_v14_apply,
    show idx_main_call1_v14 (ix2 ⟨b.val * 8192 + s.val, hn⟩ d) = ix1 ⟨b.val * 8192 + s.val, hn⟩ from by
      funext a; match a with | ⟨0, _⟩ => rfl,
    in_range]
  show val_main_call1_v13 (F := F) x0 x1 (ix2 ⟨b.val * 8192 + s.val, hn⟩ d) = _
  unfold val_main_call1_v13
  refine Routing.gather_row gather_S8193x1024_S32768x1_S32768x1024_1_0_n_n_0_1_11024 rfl rfl rfl rfl rfl x1 _ _ d _ ?_ (by decide)
  have h := taken_apply (F := F) x0 ⟨b.val * 8192 + s.val, hn⟩
  rw [eb, es] at h
  exact h

end Cert.ReferenceIdeal.Looked

end
-- ==== Proof.Equation.lean ====
/- The kernel's result array equals the reference's, on a table that meets the precondition. -/
module

public import proofs.«01_k».proof.Proof.Host
public import proofs.«01_k».proof.Proof.Angle
public import proofs.«01_k».proof.Proof.Reference
public import Idealize.ShloMosaic.Lib.IdealHost

@[expose] public section

set_option maxRecDepth 16384

noncomputable section

namespace Cert.Equation

open Cert.KernelIdeal Cert.KernelIdeal.Gen Cert.KernelIdeal.Block Cert.KernelIdeal.Array Cert.KernelIdeal.Payload Cert.KernelIdeal.Prepared
open Cert.Pre_sinusoidal.Table Cert.Angle
open Idealize.ShloMosaic Idealize.ShloMosaic.TcCoe Idealize.ShloMosaic.ValueIdx

/-- The second word of a pair, as a number. -/
theorem one_bits : (Ideal.ofBits .f32 0x3F800000#32 : EReal) = ((1 : ℝ) : EReal) := by
  rw [EReal.coe_one]; simp [Ideal.ofBits, Ideal.ieee, -EReal.coe_mul]; norm_num

/-- The first word of a pair, as a number. -/
theorem zero_bits : (Ideal.ofBits .f32 0x00000000#32 : EReal) = ((0 : ℝ) : EReal) := by
  rw [EReal.coe_zero]; simp [Ideal.ofBits, Ideal.ieee]

/-- The odd lanes' sign word, as a number. -/
theorem minus_bits : (Ideal.ofBits .f32 0xBF800000#32 : EReal) = ((-1 : ℝ) : EReal) := by
  simp [Ideal.ofBits, Ideal.ieee, -EReal.coe_mul]; norm_num

section Wrapper

variable (w : FVec Ideal S8193x1024 .f32) (hw : ∀ (r : Fin 8193) (d : Fin 1024), w (ix2 r d) = (entry r.val d.val : EReal))

/-- The table's entries, by numbers. -/
theorem at_tIx (r d : Nat) (hr : r < 8193) (hd : d < 1024) (hw : ∀ (r : Fin 8193) (d : Fin 1024), w (ix2 r d) = (entry r.val d.val : EReal)) :
    w (tIx r d) = (entry r d : EReal) := by
  rw [← eq_tIx (ix2 ⟨r, hr⟩ ⟨d, hd⟩ : S8193x1024.Idx) r d rfl rfl]
  exact hw _ _

include hw

/-- A block's cosine at a lane: that of the block's base angle. -/
theorem cosines_value (r : Fin 8) (d : Fin 1024) :
    cosines w (ix3 r 0 d) = (Real.cos (((1024 * r.val : Nat) : ℝ) * freq (d.val / 2)) : EReal) := by
  have hr := r.isLt
  have hd := d.isLt
  rw [cosines_apply, bases_apply]
  by_cases h : r.val = 0
  · rw [if_pos h, h]
    have e : (⟨(2 * (d.val / 2) + 1) % 2, Nat.mod_lt _ (by decide)⟩ : Fin 2) = 1 := Fin.ext (by show (2 * (d.val / 2) + 1) % 2 = 1; omega)
    refine (congrArg (fun q => (Ideal.ofBits .f32 (lit0 q) : EReal)) e).trans ?_
    refine one_bits.trans ?_
    norm_num
  · rw [if_neg h]
    rw [at_tIx w _ _ (by omega) (by show 2 * (d.val / 2) + 1 < 1024; omega) hw]
    unfold entry
    dsimp only
    rw [if_neg (by omega), if_neg (by omega), show (2 * (d.val / 2) + 1) / 2 = d.val / 2 by omega]

/-- A block's signed sine at a lane. -/
theorem sines_value (r : Fin 8) (d : Fin 1024) :
    sines w (ix3 r 0 d) = ((Real.sin (((1024 * r.val : Nat) : ℝ) * freq (d.val / 2)) * sign d.val : ℝ) : EReal) := by
  have hr := r.isLt
  have hd := d.isLt
  have eb : (bases w (ix2 r ⟨2 * (d.val / 2), by omega⟩) : EReal) = (Real.sin (((1024 * r.val : Nat) : ℝ) * freq (d.val / 2)) : EReal) := by
    rw [bases_apply]
    by_cases h : r.val = 0
    · rw [if_pos h, h]
      have e : (⟨(2 * (d.val / 2)) % 2, Nat.mod_lt _ (by decide)⟩ : Fin 2) = 0 := Fin.ext (by show (2 * (d.val / 2)) % 2 = 0; omega)
      refine (congrArg (fun q => (Ideal.ofBits .f32 (lit0 q) : EReal)) e).trans ?_
      refine zero_bits.trans ?_
      norm_num
    · rw [if_neg h]
      rw [at_tIx w _ _ (by omega) (by show 2 * (d.val / 2) < 1024; omega) hw]
      unfold entry
      dsimp only
      rw [if_neg (by omega), if_pos (by omega), show (2 * (d.val / 2)) / 2 = d.val / 2 by omega]
  have es : (Ideal.ofBits .f32 (lit1 ⟨d.val % 2, Nat.mod_lt _ (by decide)⟩) : EReal) = (sign d.val : EReal) := by
    unfold sign
    by_cases h : d.val % 2 = 0
    · have e : (⟨d.val % 2, Nat.mod_lt _ (by decide)⟩ : Fin 2) = 0 := Fin.ext h
      rw [if_pos h]
      exact (congrArg (fun q => (Ideal.ofBits .f32 (lit1 q) : EReal)) e).trans one_bits
    · have e : (⟨d.val % 2, Nat.mod_lt _ (by decide)⟩ : Fin 2) = 1 := Fin.ext (by show d.val % 2 = 1; omega)
      rw [if_neg h]
      exact (congrArg (fun q => (Ideal.ofBits .f32 (lit1 q) : EReal)) e).trans minus_bits
  rw [sines_apply]
  show ((bases w (ix2 r ⟨2 * (d.val / 2), by omega⟩) : EReal) * (Ideal.ofBits .f32 (lit1 ⟨d.val % 2, Nat.mod_lt _ (by decide)⟩) : EReal) : EReal) = _
  rw [eb, es, EReal.coe_mul]

end Wrapper

section Kernel

variable (m : (ℓ : Loc nD τ sig) → Buf (Elt Ideal) ℓ) (c : Dev nD)

/-- The table the kernel is given. -/
abbrev table : FVec Ideal S8193x1024 .f32 := m ((c : Thread nD τ).loc main_arg1)

/-- The inputs the kernel is given. -/
abbrev inputs : IVec S4x8192 32 := m ((c : Thread nD τ).loc main_arg0)

/-- The block's copied rows, one further on: table rows 1 to 1024. -/
theorem next_rows (k d : Fin 1024) :
    k0_pay3 (topRows (V m c main_arg1)) (iblk m c 1 t0) (ix2 k d) = table m c (tIx (k.val + 1) d.val) := by
  rw [next_apply]
  by_cases h : k.val = 1023
  · rw [dif_pos h, iblk1_apply m c t0 (ix3 0 0 d : S1x1x1024.Idx) (ix3 0 0 d : S1x1x1024.Idx) rfl, V_after, after_apply, h]
  · rw [dif_neg h, V_main_arg1]
    rfl

/-- The first scratch buffer at a row and lane. -/
theorem rows_apply (k d : Fin 1024) : rows m c (ix2 k d) = table m c (tIx (k.val + 1) d.val) := by
  unfold rows k0_pay4
  rw [cast_self]
  exact next_rows m c k d

/-- The second scratch buffer at a row and lane. -/
theorem swapped_apply (k d : Fin 1024) : swapped m c (ix2 k d) = table m c (tIx (k.val + 1) (mate d).val) := by
  unfold swapped
  rw [exchanged_apply]
  exact next_rows m c k (mate d)

variable (hw : ∀ (r : Fin 8193) (d : Fin 1024), table m c (ix2 r d) = (entry r.val d.val : EReal))

include hw

/-- The kernel's result at an index: the table's entry one row past the position, or zero where the input is padding. -/
theorem kernel_value (b : Fin 4) (s : Fin 8192) (d : Fin 1024) :
    (dats m 0 c).arrAt 4 cfg0.N (oIx b s d)
      = ((entry (if inputs m c (ix2 b s) = 0#32 then 0 else s.val + 1) d.val : ℝ) : EReal) := by
  have hs := s.isLt
  have hd := d.isLt
  have hk : s.val % 1024 < 1024 := Nat.mod_lt _ (by decide)
  have hm : (mate d).val < 1024 := (mate d).isLt
  have hr : s.val / 1024 < 8 := by omega
  have e : bIx b s d = (ix3 b ⟨s.val % 1024, hk⟩ d : S4x1024x1024.Idx) := by
    funext a; match a with | ⟨0, _⟩ => rfl | ⟨1, _⟩ => rfl | ⟨2, _⟩ => rfl
  rw [final_apply, e, stored_apply, rows_apply, swapped_apply,
    iblk2_apply m c (pt s) (ix3 0 0 d : S1x1x1024.Idx) (ix3 ⟨s.val / 1024, hr⟩ 0 d : S8x1x1024.Idx) rfl rfl,
    iblk3_apply m c (pt s) (ix3 0 0 d : S1x1x1024.Idx) (ix3 ⟨s.val / 1024, hr⟩ 0 d : S8x1x1024.Idx) rfl rfl,
    iblk0_apply m c (pt s) (ix2 b ⟨s.val % 1024, hk⟩ : S4x1024.Idx) (ix2 b s : S4x8192.Idx) rfl
      (by show s.val = s.val / 1024 * 1024 + s.val % 1024; omega),
    V_cosines, V_sines, cosines_value _ hw, sines_value _ hw,
    at_tIx _ _ _ (by show s.val % 1024 + 1 < 8193; omega) hd hw, at_tIx _ _ _ (by show s.val % 1024 + 1 < 8193; omega) hm hw,
    ← EReal.coe_mul, ← EReal.coe_mul, ← EReal.coe_add]
  have sum : entry (s.val % 1024 + 1) d.val * Real.cos (((1024 * (s.val / 1024) : Nat) : ℝ) * freq (d.val / 2))
      + entry (s.val % 1024 + 1) (mate d).val * (Real.sin (((1024 * (s.val / 1024) : Nat) : ℝ) * freq (d.val / 2)) * sign d.val)
        = entry (s.val + 1) d.val := by
    have e1 : 1024 * (s.val / 1024) + s.val % 1024 + 1 = s.val + 1 := by omega
    rw [← e1]
    by_cases h : d.val % 2 = 0
    · exact sum_even _ _ _ _ h (mate_even d h)
    · exact sum_odd _ _ _ _ h (mate_odd d h)
  rw [sum]
  by_cases h : inputs m c (ix2 b s) = 0#32
  · rw [if_pos h, if_pos h, mul_zero]
    unfold entry
    rw [if_pos rfl, EReal.coe_zero]
  · rw [if_neg h, if_neg h, mul_one]

/-- The kernel's result is the reference's. -/
theorem results_eq : (dats m 0 c).arrAt 4 cfg0.N
    = Cert.ReferenceIdeal.Read.val_main_v9 (F := Ideal) (inputs m c) (table m c) := by
  funext i
  have e : i = oIx (i 0) (i 1) (i 2) := by
    funext a; match a with | ⟨0, _⟩ => rfl | ⟨1, _⟩ => rfl | ⟨2, _⟩ => rfl
  rw [e]
  refine (kernel_value m c hw (i 0) (i 1) (i 2)).trans ?_
  refine Eq.symm ((Cert.ReferenceIdeal.Looked.result_apply (F := Ideal) (inputs m c) (table m c) (i 0) (i 1) (i 2)).trans ?_)
  exact hw _ _

end Kernel

end Cert.Equation

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Pre_sinusoidal
public import proofs.«01_k».proof.Proof.Equation
public import Idealize.ShloMosaic.Adequacy
public import Idealize.ShloMosaic.Init

@[expose] public section

noncomputable section

namespace Cert.Proof

open Idealize.ShloMosaic Idealize.SL.Sem Cert.Kernel

/-- The reference runs, keeps its arguments, and, having no semaphore, leaves every counter at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
          = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
          = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2, sem_eq_zero_of_no_sems (by decide) r.2⟩)
    (Cert.ReferenceIdeal.Value.run m g)

/-- The value claim. The shared result is the array the kernel's grid leaves; the reference's result is that same array, because
    the reference reads the table row by row (`val_main_v9_eq`), its arguments are the kernel's, and the table satisfies
    `sinusoidal` (`Cert.Equation.results_eq`). -/
theorem algebraic : @Cert.algebraic_KernelIdeal_ReferenceIdeal_pre_sinusoidal
    Cert.KernelIdeal.Gen.facts Cert.ReferenceIdeal.Gen.facts Cert.Pre_sinusoidal.Gen.facts := by
  intro m g m' g' hpre hargs
  refine ⟨fun c => (Cert.KernelIdeal.Gen.dats m 0 c).arrAt 4 Cert.KernelIdeal.cfg0.N, Cert.KernelIdeal.Value.run_blocks m g, ?_⟩
  refine (θ_run Cert.ReferenceIdeal.defs _ _).mono (fun r h c => ⟨(h c).1.trans ?_, (h c).2⟩) (Cert.ReferenceIdeal.Value.run m' g')
  refine (Cert.ReferenceIdeal.Read.val_main_v9_eq m' c).trans ?_
  rw [(hargs c).1, (hargs c).2]
  exact (Cert.Equation.results_eq m c (Cert.Pre_sinusoidal.Table.table_apply _ _ (hpre c))).symm

/-- Everything the certificate claims. -/
theorem claim : Cert.Claim :=
  ⟨Cert.Kernel.Gen.facts, Cert.KernelIdeal.Gen.facts, Cert.ReferenceIdeal.Gen.facts, Cert.Pre_sinusoidal.Gen.facts,
    fun m g _ => Cert.Kernel.Gen.frame m g,
    fun m g _ => Cert.KernelIdeal.Gen.frame m g,
    fun m g _ => Cert.KernelIdeal.Gen.frame m g,
    fun m g _ => reference_frame m g,
    fun m g _ => reference_frame m g,
    trivial,
    algebraic⟩

end Cert.Proof

end
